-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e_over_8" .f32 0x3E38AA3B#32 (((8 * (Real.log 2))⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S4x4096x1024 : Shape := ⟨3, ![4, 4096, 1024]⟩
abbrev S1024x64 : Shape := ⟨2, ![1024, 64]⟩
abbrev S64 : Shape := ⟨1, ![64]⟩
abbrev S_ : Shape := ⟨0, ![]⟩

class Facts : Prop where
  bcast_S_S4x4096x1024 : S_.BroadcastsInDim S4x4096x1024 (![] : Fin 0 → Fin S4x4096x1024.rank)

variable [Facts]

def fn {F : FTy → Type} [FloatOps F] (main_arg0 : FVec F S4x4096x1024 .f32) (main_arg1 : FVec F S4x4096x1024 .f32) (main_arg2 : FVec F S4x4096x1024 .f32) (main_arg3 : FVec F S1024x64 .f32) (main_arg4 : FVec F S64 .f32) : IVec S4x4096x1024 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S4x4096x1024 .f32 := Host.absf main_arg1
  let main_cst_0 : FVec F S_ .f32 := constant S_ .f32 0x7F800000#32
  let main_v4 : FVec F S4x4096x1024 .f32 := broadcastInDim S4x4096x1024 ![] bcast_S_S4x4096x1024 main_cst_0
  let main_v5 : IVec S4x4096x1024 1 := cmpf .olt main_v3 main_v4
  let main_v6 : IVec S4x4096x1024 1 := andi main_v2 main_v5
  main_v6
-- ==== Kernel.lean ====
abbrev S4x4096x1024 : Shape := ⟨3, ![4, 4096, 1024]⟩
abbrev S1024x64 : Shape := ⟨2, ![1024, 64]⟩
abbrev S64 : Shape := ⟨1, ![64]⟩
abbrev S1x64 : Shape := ⟨2, ![1, 64]⟩
abbrev S4x4096x64 : Shape := ⟨3, ![4, 4096, 64]⟩
abbrev S1x256x256 : Shape := ⟨3, ![1, 256, 256]⟩
abbrev S1x4096x256 : Shape := ⟨3, ![1, 4096, 256]⟩
abbrev S256x64 : Shape := ⟨2, ![256, 64]⟩
abbrev S1x256x64 : Shape := ⟨3, ![1, 256, 64]⟩
abbrev S4096x64 : Shape := ⟨2, ![4096, 64]⟩
abbrev S4096x256 : Shape := ⟨2, ![4096, 256]⟩
abbrev S4096x128 : Shape := ⟨2, ![4096, 128]⟩
abbrev S256x256 : Shape := ⟨2, ![256, 256]⟩
abbrev S256x4096 : Shape := ⟨2, ![256, 4096]⟩
abbrev S256x128 : Shape := ⟨2, ![256, 128]⟩
abbrev S64x64 : Shape := ⟨2, ![64, 64]⟩
abbrev S256x1 : Shape := ⟨2, ![256, 1]⟩

abbrev nBuf : Space → Nat
  | .hbm => 7
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x64, .f32⟩
  | .hbm, ⟨4, _⟩ => ⟨S64, .f32⟩
  | .hbm, ⟨5, _⟩ => ⟨S1x64, .f32⟩
  | .hbm, ⟨6, _⟩ => ⟨S4x4096x64, .f32⟩
  | .local _ .vmem, ⟨0, _⟩ => ⟨S1x256x256, .f32⟩
  | .local _ .vmem, ⟨1, _⟩ => ⟨S1x256x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S256x64, .f32⟩
  | .local _ .vmem, ⟨7, _⟩ => ⟨S256x64, .f32⟩
  | .local _ .vmem, ⟨8, _⟩ => ⟨S1x64, .f32⟩
  | .local _ .vmem, ⟨9, _⟩ => ⟨S1x256x64, .f32⟩
  | .local _ .vmem, ⟨10, _⟩ => ⟨S1x256x64, .f32⟩
  | .local _ .vmem, ⟨11, _⟩ => ⟨S4096x64, .f32⟩
  | .local _ .vmem, ⟨12, _⟩ => ⟨S4096x256, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg1 : BitVec 32 := BitVec.ofNat 32 (i 1).val
  let c0_i32_36 : BitVec 32 := 0#32
  let v64 : BitVec 1 := Scalar.cmpi .eq arg1 c0_i32_36
  let v65 : BitVec 32 := Scalar.extui v64
  let c0_i32_37 : BitVec 32 := 0#32
  let v66 : BitVec 1 := Scalar.cmpi .ne v65 c0_i32_37
  v66

def k0_off1 (i : grid0.Coords) : Fin 2 → Nat :=
  let arg2 : BitVec 32 := BitVec.ofNat 32 (i 2).val
  let c256_i32 : BitVec 32 := 256#32
  let v63 : BitVec 32 := Scalar.muli arg2 c256_i32
  let v73 : Index := Scalar.indexCast v63
  let c0_41 : Index := 0#32
  ![v73.toNat, 0]
def k0_cond3 (i : grid0.Coords) : BitVec 1 :=
  let arg1 : BitVec 32 := BitVec.ofNat 32 (i 1).val
  let c0_i32_38 : BitVec 32 := 0#32
  let v67 : BitVec 1 := Scalar.cmpi .sgt arg1 c0_i32_38
  let v68 : BitVec 32 := Scalar.extui v67
  let c0_i32_39 : BitVec 32 := 0#32
  let v69 : BitVec 1 := Scalar.cmpi .ne v68 c0_i32_39
  v69

def k0_off2 (i : grid0.Coords) : Fin 2 → Nat :=
  let arg2 : BitVec 32 := BitVec.ofNat 32 (i 2).val
  let c256_i32 : BitVec 32 := 256#32
  let v63 : BitVec 32 := Scalar.muli arg2 c256_i32
  let v73 : Index := Scalar.indexCast v63
  let c0_41 : Index := 0#32
  ![v73.toNat, 0]
def k0_cond4 (i : grid0.Coords) : BitVec 1 :=
  let arg1 : BitVec 32 := BitVec.ofNat 32 (i 1).val
  let c3_i32 : BitVec 32 := 3#32
  let v70 : BitVec 1 := Scalar.cmpi .eq arg1 c3_i32
  let v71 : BitVec 32 := Scalar.extui v70
  let c0_i32_40 : BitVec 32 := 0#32
  let v72 : BitVec 1 := Scalar.cmpi .ne v71 c0_i32_40
  v72

def k0_off3 (i : grid0.Coords) : Fin 2 → Nat :=
  let arg2 : BitVec 32 := BitVec.ofNat 32 (i 2).val
  let c256_i32 : BitVec 32 := 256#32
  let v63 : BitVec 32 := Scalar.muli arg2 c256_i32
  let v73 : Index := Scalar.indexCast v63
  let c0_41 : Index := 0#32
  ![v73.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]
-- ==== KernelIdeal.lean ====
variable {F : FTy → Type} [FloatOps F] [Named F]
def κ : String → Option EReal := fun
  | "log2e_over_8" => some (((8 * (Real.log 2))⁻¹ : ℝ) : EReal)
  | _ => none
-- ==== ReferenceIdeal.lean ====
abbrev S4x4096x1024 : Shape := ⟨3, ![4, 4096, 1024]⟩
abbrev S1024x64 : Shape := ⟨2, ![1024, 64]⟩
abbrev S64 : Shape := ⟨1, ![64]⟩
abbrev S4x4096x16x64 : Shape := ⟨4, ![4, 4096, 16, 64]⟩
abbrev S4x16x4096x64 : Shape := ⟨4, ![4, 16, 4096, 64]⟩
abbrev S_ : Shape := ⟨0, ![]⟩
abbrev S4x16x4096x4096 : Shape := ⟨4, ![4, 16, 4096, 4096]⟩
abbrev S4x16x4096 : Shape := ⟨3, ![4, 16, 4096]⟩
abbrev S4x16x4096x1 : Shape := ⟨4, ![4, 16, 4096, 1]⟩
abbrev S4x4096x64 : Shape := ⟨3, ![4, 4096, 64]⟩
abbrev S1x1x64 : Shape := ⟨3, ![1, 1, 64]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x64, .f32⟩
  | .hbm, ⟨4, _⟩ => ⟨S64, .f32⟩
  | .hbm, ⟨5, _⟩ => ⟨S4x4096x16x64, .f32⟩
  | .hbm, ⟨6, _⟩ => ⟨S4x16x4096x64, .f32⟩
  | .hbm, ⟨7, _⟩ => ⟨S4x4096x16x64, .f32⟩
  | .hbm, ⟨8, _⟩ => ⟨S4x16x4096x64, .f32⟩
  | .hbm, ⟨9, _⟩ => ⟨S4x4096x16x64, .f32⟩
  | .hbm, ⟨10, _⟩ => ⟨S4x16x4096x64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x16x4096x4096, .f32⟩
  | .hbm, ⟨16, _⟩ => ⟨S4x16x4096x4096, .f32⟩
  | .hbm, ⟨17, _⟩ => ⟨S4x16x4096x4096, .f32⟩
  | .hbm, ⟨18, _⟩ => ⟨S_, .f32⟩
  | .hbm, ⟨19, _⟩ => ⟨S4x16x4096, .f32⟩
  | .hbm, ⟨20, _⟩ => ⟨S_, .f32⟩
  | .hbm, ⟨21, _⟩ => ⟨S4x16x4096, .f32⟩
  | .hbm, ⟨22, _⟩ => ⟨S4x16x4096, .f32⟩
  | .hbm, ⟨23, _⟩ => ⟨S4x16x4096x1, .f32⟩
  | .hbm, ⟨24, _⟩ => ⟨S4x16x4096x4096, .f32⟩
  | .hbm, ⟨25, _⟩ => ⟨S4x16x4096x4096, .f32⟩
  | .hbm, ⟨26, _⟩ => ⟨S4x16x4096x4096, .f32⟩
  | .hbm, ⟨27, _⟩ => ⟨S_, .f32⟩
  | .hbm, ⟨28, _⟩ => ⟨S4x16x4096, .f32⟩
  | .hbm, ⟨29, _⟩ => ⟨S4x16x4096x1, .f32⟩
  | .hbm, ⟨30, _⟩ => ⟨S4x16x4096x4096, .f32⟩
  | .hbm, ⟨31, _⟩ => ⟨S4x16x4096x4096, .f32⟩
  | .hbm, ⟨32, _⟩ => ⟨S4x16x4096x64, .f32⟩
  | .hbm, ⟨33, _⟩ => ⟨S4x4096x16x64, .f32⟩
  | .hbm, ⟨34, _⟩ => ⟨S4x4096x1024, .f32⟩
  | .hbm, ⟨35, _⟩ => ⟨S4x4096x64, .f32⟩
  | .hbm, ⟨36, _⟩ => ⟨S1x1x64, .f32⟩
  | .hbm, ⟨37, _⟩ => ⟨S4x4096x64, .f32⟩
  | .hbm, ⟨38, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Proof.Body.lean ====
/-
  One grid point of the kernel, over the idealized program: what the body stores, as functions of what it reads, and
  the body's run at symbolic operands. A point reads the q block (`X0`), the k and v blocks (`X1`, `X2`), the rows of
  the output weights of its group (`X3`) and the bias (`X4`); the first point of a group also fills the five scratch
  buffers that hold the group's prepared k and v. Everything here is for any float operations.
-/
module

public import proofs.«01_k».proof.Proof.Gen.KernelIdeal.Frame
public import proofs.«01_k».proof.Proof.Gen.KernelIdeal.Skeleton
public import Idealize.ShloMosaic.Lib.VecWindow
public import Idealize.ShloMosaic.Lib.Pipeline.ValueKit

@[expose] public section

set_option maxRecDepth 16384
set_option maxHeartbeats 2000000

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

/-! ## What the body computes -/

/-- The five prepared scratches of a group: its k block, and its v block once per head with ones in the other half. -/
structure Prep (F : FTy → Type) where
  k : Vec F S4096x256 .bf16
  v0 : Vec F S4096x128 .bf16
  v1 : Vec F S4096x128 .bf16
  v2 : Vec F S4096x128 .bf16
  v3 : Vec F S4096x128 .bf16

/-- The preparation of a group from its k block and its v block. -/
def prep (X1 X2 : Vec F S1x4096x256 .f32) : Prep F :=
  ⟨k0_pay3 X1, k0_pay7 X2, k0_pay8 X2, k0_pay9 X2, k0_pay11 (k0_pay6 X2) k0_pay10⟩

/-- What a point adds to its rows of the accumulator: the four heads' attention of the q block against the prepared
    group, each through its rows of the output weights. -/
def contrib (X0 : Vec F S1x256x256 .f32) (p : Prep F) (X3 : Vec F S256x64 .f32) : FVec F S256x64 .f32 :=
  k0_pay17 (k0_pay13 X0 (VecWindow.window p.k ![0, 128] S4096x64.size inb_S4096x256_S4096x64_0_128))
    (k0_pay14 X0 (VecWindow.window p.k ![0, 192] S4096x64.size inb_S4096x256_S4096x64_0_192))
    (k0_pay15 X0 (VecWindow.window p.k ![0, 0] S4096x64.size inb_S4096x256_S4096x64_0_0) p.v0)
    (k0_pay16 X0 (VecWindow.window p.k ![0, 64] S4096x64.size inb_S4096x256_S4096x64_0_64) p.v1)
    p.v2 p.v3
    (VecWindow.window X3 ![0, 0] S64x64.size inb_S256x64_S64x64_0_0)
    (VecWindow.window X3 ![64, 0] S64x64.size inb_S256x64_S64x64_64_0)
    (VecWindow.window X3 ![128, 0] S64x64.size inb_S256x64_S64x64_128_0)
    (VecWindow.window X3 ![192, 0] S64x64.size inb_S256x64_S64x64_192_0)

/-- A row block of 256 rows lies inside the accumulator. -/
theorem rows_inb (n : Fin 16) : ∀ a, (![256 * n.val, 0] : Fin 2 → ℕ) a + S256x64.size a ≤ S4096x64.size a := by
  revert n; decide

/-- Row block `n` of the accumulator. -/
def rows (n : Fin 16) (a : Vec F S4096x64 .f32) : Vec F S256x64 .f32 :=
  VecWindow.window a ![256 * n.val, 0] S256x64.size (rows_inb n)

/-- The accumulator after a point of group `g` and row block `n` adds `C`: the first group sets the rows, a later one
    adds to them. -/
def accum (g : Fin 4) (n : Fin 16) (a : Vec F S4096x64 .f32) (C : FVec F S256x64 .f32) : Vec F S4096x64 .f32 :=
  VecWindow.put a ![256 * n.val, 0] S256x64.size (if g.val = 0 then C else addf (rows n a) C)

/-! ## The body's conditions, read off the grid point -/

/-- The keys and the values are prepared at the first row block. -/
theorem cond1_iff (i : grid0.Coords) :
    (Scalar.cmpi .ne (Scalar.extui (Scalar.cmpi .eq (BitVec.ofNat 32 (i 2).val) 0#32) : BitVec 32) 0#32 = 1#1) ↔ (i 2).val = 0 := by
  have h : ∀ n : Fin 16, (Scalar.cmpi .ne (Scalar.extui (Scalar.cmpi .eq (BitVec.ofNat 32 n.val) 0#32) : BitVec 32) 0#32 = 1#1) ↔ n.val = 0 := by decide
  exact h (i 2)

/-- The rows of the sum are set in group 0. -/
theorem cond2_iff (i : grid0.Coords) : k0_cond2 i = 1#1 ↔ (i 1).val = 0 := by
  have h : ∀ n : Fin 4, (Scalar.cmpi .ne (Scalar.extui (Scalar.cmpi .eq (BitVec.ofNat 32 n.val) 0#32) : BitVec 32) 0#32 = 1#1) ↔ n.val = 0 := by decide
  exact h (i 1)

/-- They are added to in the groups after it. -/
theorem cond3_iff (i : grid0.Coords) : k0_cond3 i = 1#1 ↔ (i 1).val ≠ 0 := by
  have h : ∀ n : Fin 4, (Scalar.cmpi .ne (Scalar.extui (Scalar.cmpi .sgt (BitVec.ofNat 32 n.val) 0#32) : BitVec 32) 0#32 = 1#1) ↔ n.val ≠ 0 := by decide
  exact h (i 1)

/-- The result is written in the last group. -/
theorem cond4_iff (i : grid0.Coords) : k0_cond4 i = 1#1 ↔ (i 1).val = 3 := by
  have h : ∀ n : Fin 4, (Scalar.cmpi .ne (Scalar.extui (Scalar.cmpi .eq (BitVec.ofNat 32 n.val) 3#32) : BitVec 32) 0#32 = 1#1) ↔ n.val = 3 := by decide
  exact h (i 1)

/-! ## The body's run -/

/-- The contents' type of memref `M`'s buffer on core `c`. -/
abbrev Bf (c : Dev nD) {sp : Space} {S : Shape} {e : EltTy} (M : Memref sig .tc sp S e) : Type := Buf (Elt F) (M.view.loc (c : Thread nD τ))
/-- Memref `M`'s buffer on core `c` held whole, at `f`. -/
abbrev pt (c : Dev nD) {sp : Space} {S : Shape} {e : EltTy} (M : Memref sig .tc sp S e) (f : Bf (F := F) c M) : sProp 𝕄 :=
  M.view.loc (c : Thread nD τ) ↦{fullShare} f

/-- The five scratch buffers of core `c` that hold the prepared group, at `p`. -/
def prepared (c : Dev nD) (p : Prep F) : sProp 𝕄 :=
  iprop(pt c (Memref.whole cc0_scratch1) p.k ∗ pt c (Memref.whole cc0_scratch2) p.v0
    ∗ pt c (Memref.whole cc0_scratch3) p.v1 ∗ pt c (Memref.whole cc0_scratch4) p.v2 ∗ pt c (Memref.whole cc0_scratch5) p.v3)

/-- What a point may leave in the output's staging buffer: from the last group's points, the finished rows plus the bias. -/
def outOK (g : Fin 4) (n : Fin 16) (a : Vec F S4096x64 .f32) (X4 : Vec F S1x64 .f32) (X5 : Vec F S1x256x64 .f32) : Prop :=
  g.val = 3 → X5 = k0_pay2 (rows n a) X4

/-- Owning a buffer with one content is owning it with an equal one. -/
theorem pts_of_eq {ℓ : Loc nD τ sig} {f g : Buf (Elt F) ℓ} (h : f = g) : (ℓ ↦{fullShare} f : sProp 𝕄) ⊢ ℓ ↦{fullShare} g := by
  subst h; exact Entails.rfl

/-- A result's buffer of a content that is right is a buffer of some content that is right. -/
theorem out_give {c : Dev nD} {M : Memref sig .tc .vmem S1x256x64 .f32} {f : Bf (F := F) c M} {g : Fin 4} {n : Fin 16}
    {a : Vec F S4096x64 .f32} {X4 : Vec F S1x64 .f32} (h : outOK g n a X4 (M.view.read (Elt F) f)) :
    pt c M f ⊢ (∃ f' : Bf (F := F) c M, ⌜outOK g n a X4 (M.view.read (Elt F) f')⌝ ∗ pt c M f') := by
  iintro H; iexists f
  isplitr; · ipureintro; exact h
  iexact H

/-- The body's stage conditions, by the group: the first group sets, a later one adds, the last one also stores. -/
theorem group_cases (i : grid0.Coords) :
    (k0_cond2 i = 1#1 ∧ ¬ k0_cond3 i = 1#1 ∧ ¬ k0_cond4 i = 1#1 ∧ (i 1).val = 0)
      ∨ (¬ k0_cond2 i = 1#1 ∧ k0_cond3 i = 1#1 ∧ ¬ k0_cond4 i = 1#1 ∧ (i 1).val ≠ 0 ∧ (i 1).val ≠ 3)
      ∨ (¬ k0_cond2 i = 1#1 ∧ k0_cond3 i = 1#1 ∧ k0_cond4 i = 1#1 ∧ (i 1).val ≠ 0) := by
  rw [cond2_iff, cond3_iff, cond4_iff]; omega

/-- The part that the first group stores is the sum of the point's four heads. -/
theorem pay18_eq (v25 v27 v29 v31 v32 v34 v37 v40 v43 v46) :
    k0_pay18 (F := F) v25 v27 v29 v31 v32 v34 v37 v40 v43 v46 = k0_pay17 v25 v27 v29 v31 v32 v34 v37 v40 v43 v46 :=
  shapeCast_self _ _

/-- The sum that is stored: the rows' old content plus the point's part. -/
theorem pay1_eq (v62 v74 : FVec F S256x64 .f32) : k0_pay1 (F := F) v62 v74 = addf v74 v62 := shapeCast_self _ _

/-- A buffer stored whole holds what was stored. -/
theorem writes_whole {b : Ref sig .tc} (f : b.ty.Contents (Elt F)) {off : Fin b.ty.shape.rank → ℕ} (inb : ∀ a, off a + b.ty.shape.size a ≤ b.ty.shape.size a)
    (w : (Rect.unit off b.ty.shape.size inb).shape.Idx → Elt F b.ty.elt) :
    (Memref.whole b).view.writes (Elt F) f [⟨Rect.unit off b.ty.shape.size inb, w⟩] = w :=
  View.read_writes_full (Memref.whole b).view f inb w []

/-- Reading a part of a buffer just stored whole gives that part of the payload. -/
theorem cov_window {sp : Space} {s : Shape} {e : EltTy} (v : View sig .tc sp s e) {off off' size : Fin s.rank → ℕ}
    (inb : ∀ a, off a + size a ≤ s.size a) (inb' : ∀ a, off' a + s.size a ≤ s.size a)
    {w : (Rect.unit off' s.size inb').shape.Idx → Elt F e} {W : Vec F s e} (h : w = W) :
    v.readCov [⟨Rect.unit off' s.size inb', w⟩] (Rect.unit off size inb).toLoadRect = VecWindow.window W off size inb := by
  subst h
  exact funext fun y => congrFun (View.read_writes_full v v.junk inb' w []) ((Rect.unit off size inb).emb y)

/-- Reading all of a buffer just stored whole gives the payload. -/
theorem cov_full {sp : Space} {s : Shape} {e : EltTy} (v : View sig .tc sp s e) {off off' : Fin s.rank → ℕ}
    (inb : ∀ a, off a + s.size a ≤ s.size a) (inb' : ∀ a, off' a + s.size a ≤ s.size a)
    {w : (Rect.unit off' s.size inb').shape.Idx → Elt F e} {W : Vec F s e} (h : w = W) :
    v.readCov [⟨Rect.unit off' s.size inb', w⟩] (Rect.unit off s.size inb).toLoadRect = W := by
  subst h
  exact (View.readAt_full v _ inb).trans (View.read_writes_full v v.junk inb' w [])

/-- The payloads of a group's first point are its preparation. -/
theorem prep_of (X1 X2 : Vec F S1x4096x256 .f32) :
    k0_pay3 X1 = (prep X1 X2).k ∧ k0_pay7 X2 = (prep X1 X2).v0 ∧ k0_pay8 X2 = (prep X1 X2).v1 ∧ k0_pay9 X2 = (prep X1 X2).v2
      ∧ k0_pay11 (k0_pay6 X2) k0_pay10 = (prep X1 X2).v3 := ⟨rfl, rfl, rfl, rfl, rfl⟩

/-- A point's part, from what its loads gave: each is the named piece of the blocks and of the prepared windows. -/
theorem contrib_of {X0 x0 x1 x2 x3 : Vec F S1x256x256 .f32} {p : Prep F} {X3 : Vec F S256x64 .f32} {k0 k1 k2 k3 : FVec F S4096x64 .bf16}
    {v0 v1 v2 v3 : FVec F S4096x128 .bf16} {w0 w1 w2 w3 : FVec F S64x64 .f32}
    (e0 : x0 = X0) (e1 : x1 = X0) (e2 : x2 = X0) (e3 : x3 = X0)
    (ek0 : k0 = VecWindow.window p.k ![0, 0] S4096x64.size inb_S4096x256_S4096x64_0_0)
    (ek1 : k1 = VecWindow.window p.k ![0, 64] S4096x64.size inb_S4096x256_S4096x64_0_64)
    (ek2 : k2 = VecWindow.window p.k ![0, 128] S4096x64.size inb_S4096x256_S4096x64_0_128)
    (ek3 : k3 = VecWindow.window p.k ![0, 192] S4096x64.size inb_S4096x256_S4096x64_0_192)
    (ev0 : v0 = p.v0) (ev1 : v1 = p.v1) (ev2 : v2 = p.v2) (ev3 : v3 = p.v3)
    (ew0 : w0 = VecWindow.window X3 ![0, 0] S64x64.size inb_S256x64_S64x64_0_0)
    (ew1 : w1 = VecWindow.window X3 ![64, 0] S64x64.size inb_S256x64_S64x64_64_0)
    (ew2 : w2 = VecWindow.window X3 ![128, 0] S64x64.size inb_S256x64_S64x64_128_0)
    (ew3 : w3 = VecWindow.window X3 ![192, 0] S64x64.size inb_S256x64_S64x64_192_0) :
    k0_pay17 (k0_pay13 x2 k2) (k0_pay14 x3 k3) (k0_pay15 x0 k0 v0) (k0_pay16 x1 k1 v1) v2 v3 w0 w1 w2 w3 = contrib X0 p X3 := by
  subst e0 e1 e2 e3 ek0 ek1 ek2 ek3 ev0 ev1 ev2 ev3 ew0 ew1 ew2 ew3; rfl

/-- A part of a memref read is the same part of what it holds. -/
theorem readAt_part {sp : Space} {s : Shape} {e : EltTy} (v : View sig .tc sp s e) (f : v.ty.Contents (Elt F)) {off size : Fin s.rank → ℕ}
    (inb : ∀ a, off a + size a ≤ s.size a) :
    v.readAt (Elt F) (Rect.unit off size inb).toLoadRect f = VecWindow.window (v.read (Elt F) f) off size inb := rfl

/-- The rows stored at the first group. -/
theorem acc_set (g : Fin 4) (n : Fin 16) (a : Vec F S4096x64 .f32) {off : Fin 2 → ℕ} (inb : ∀ x, off x + S256x64.size x ≤ S4096x64.size x)
    (hoff : off = ![256 * n.val, 0]) (hg : g.val = 0) {w C : FVec F S256x64 .f32} (hw : w = C) :
    (Memref.whole cc0_scratch0).view.writes (Elt F) a [⟨Rect.unit off S256x64.size inb, w⟩] = accum g n a C := by
  subst hw
  refine (View.read_writes_cons_put (Memref.whole cc0_scratch0).view a inb w [] hoff).trans ?_
  rw [accum, if_pos hg]; rfl

/-- The rows stored at a later group. -/
theorem acc_add (g : Fin 4) (n : Fin 16) (a : Vec F S4096x64 .f32) {off off' : Fin 2 → ℕ} (inb : ∀ x, off x + S256x64.size x ≤ S4096x64.size x)
    (inb' : ∀ x, off' x + S256x64.size x ≤ S4096x64.size x)
    (hoff : off = ![256 * n.val, 0]) (hoff' : off' = ![256 * n.val, 0]) (hg : g.val ≠ 0) {w C : FVec F S256x64 .f32} (hw : w = C) :
    (Memref.whole cc0_scratch0).view.writes (Elt F) a [⟨Rect.unit off S256x64.size inb,
      k0_pay1 w (View.readAt (s := S4096x64) (e := .f32) (Elt F) (Memref.whole cc0_scratch0).view (Rect.unit (s := S4096x64) off' S256x64.size inb').toLoadRect a)⟩] = accum g n a C := by
  subst hw hoff'
  refine (View.read_writes_cons_put (Memref.whole cc0_scratch0).view a inb _ [] hoff).trans ?_
  rw [accum, if_neg hg, pay1_eq]; rfl

/-- The rows a point wrote, read back. -/
theorem rows_accum (g : Fin 4) (n : Fin 16) (a : Vec F S4096x64 .f32) (C : FVec F S256x64 .f32) :
    rows n (accum g n a C) = if g.val = 0 then C else addf (rows n a) C :=
  VecWindow.window_put_same _ _ _ _ _

/-- The finished rows read back for the output. -/
theorem out_add (g : Fin 4) (n : Fin 16) (a : Vec F S4096x64 .f32) {off off' off'' : Fin 2 → ℕ} (inb : ∀ x, off x + S256x64.size x ≤ S4096x64.size x)
    (inb' : ∀ x, off' x + S256x64.size x ≤ S4096x64.size x) (inb'' : ∀ x, off'' x + S256x64.size x ≤ S4096x64.size x)
    (hoff : off = ![256 * n.val, 0]) (hoff' : off' = ![256 * n.val, 0]) (hoff'' : off'' = ![256 * n.val, 0]) (hg : g.val ≠ 0)
    {w C : FVec F S256x64 .f32} {X4 x4 : Vec F S1x64 .f32} (hx : x4 = X4) (hw : w = C) :
    k0_pay2 (View.readCov (s := S4096x64) (e := .f32) (Val := Elt F) (Memref.whole cc0_scratch0).view [⟨Rect.unit (s := S4096x64) off S256x64.size inb,
      k0_pay1 w (View.readAt (s := S4096x64) (e := .f32) (Elt F) (Memref.whole cc0_scratch0).view (Rect.unit (s := S4096x64) off' S256x64.size inb').toLoadRect a)⟩]
      (Rect.unit (s := S4096x64) off'' S256x64.size inb'').toLoadRect) x4 = k0_pay2 (rows n (accum g n a C)) X4 := by
  subst hx hw hoff' hoff''
  refine congrArg (k0_pay2 · x4) ?_
  rw [rows_accum, if_neg hg, pay1_eq]
  have h := View.read_writes_cons_put (Val := Elt F) (Memref.whole cc0_scratch0).view (Memref.whole cc0_scratch0).view.junk inb
    (addf (rows n a) w) [] hoff
  have h' := congrArg (fun x : Vec F S4096x64 .f32 => VecWindow.window (s := S4096x64) x ![256 * n.val, 0] S256x64.size inb'') h
  refine Eq.trans h' ?_
  exact VecWindow.window_put_same (s := S4096x64) _ _ _ _ _

/-- The body at symbolic operands: it leaves its inputs, refills the prepared group at a group's first point, adds the
    point's contribution to its rows of the accumulator, and at the last group stores the finished rows plus the bias. -/
theorem run (c : Dev nD) (i : grid0.Coords)
    (M0 : Memref sig .tc .vmem S1x256x256 .f32) (h0 : M0.IsWhole) (M1 : Memref sig .tc .vmem S1x4096x256 .f32) (h1 : M1.IsWhole)
    (M2 : Memref sig .tc .vmem S1x4096x256 .f32) (h2 : M2.IsWhole) (M3 : Memref sig .tc .vmem S256x64 .f32) (h3 : M3.IsWhole)
    (M4 : Memref sig .tc .vmem S1x64 .f32) (h4 : M4.IsWhole) (M5 : Memref sig .tc .vmem S1x256x64 .f32) (h5 : M5.IsWhole)
    (f0 : Bf (F := F) c M0) (f1 : Bf (F := F) c M1) (f2 : Bf (F := F) c M2) (f3 : Bf (F := F) c M3) (f4 : Bf (F := F) c M4) (f5 : Bf (F := F) c M5)
    (a : Vec F S4096x64 .f32) (p p' : Prep F)
    (hp : p' = if (i 2).val = 0 then prep (M1.view.read (Elt F) f1) (M2.view.read (Elt F) f2) else p)
    (a' : Vec F S4096x64 .f32) (ha : a' = accum (i 1) (i 2) a (contrib (M0.view.read (Elt F) f0) p' (M3.view.read (Elt F) f3)))
    (E : Set ℕ) (Q : PUnit → sProp 𝕄) :
    iprop(pt c M0 f0 ∗ pt c M1 f1 ∗ pt c M2 f2 ∗ pt c M3 f3 ∗ pt c M4 f4 ∗ pt c M5 f5 ∗ pt c (Memref.whole cc0_scratch0) a ∗ prepared c p
        ∗ (iprop(pt c M0 f0 ∗ pt c M1 f1 ∗ pt c M2 f2 ∗ pt c M3 f3 ∗ pt c M4 f4
            ∗ prepared c p' ∗ pt c (Memref.whole cc0_scratch0) a'
            ∗ (∃ f5' : Bf (F := F) c M5, ⌜outOK (i 1) (i 2) a' (M4.view.read (Elt F) f4) (M5.view.read (Elt F) f5')⌝ ∗ pt c M5 f5')) -∗ Q ⟨⟩))
      ⊢ wp frame (wpE (defs₀ (F := F)) Variants.none c none) E
          (cc0__mha_kernel i M0 h0 M1 h1 M2 h2 M3 h3 M4 h4 M5 h5 (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _)) Q := by
  have e1 := cond1_iff i
  have e2 := cond2_iff i
  have e3 := cond3_iff i
  have e4 := cond4_iff i
  unfold prepared
  simp only [cc0__mha_kernel_eq_skeleton]; unfold cc0__mha_kernel_skel
  simp only [k0_part1_eq_skeleton, k0_part2_eq_skeleton, k0_part3_eq_skeleton]
  have o1 := k0_off1_eq i
  have o2 := k0_off2_eq i
  have o3 := k0_off3_eq i
  have hr0 := View.readAt_full M0.view f0 inb_S1x256x256_S1x256x256_0_0_0
  have hr4 := View.readAt_full M4.view f4 inb_S1x64_S1x64_0_0
  by_cases c1 : (i 2).val = 0
  · rw [if_pos c1] at hp
    have hc1 := e1.mpr c1
    have hr1 := View.readAt_full M1.view f1 inb_S1x4096x256_S1x4096x256_0_0_0
    have hr2 := View.readAt_full M2.view f2 inb_S1x4096x256_S1x4096x256_0_0_0
    obtain ⟨hk, hv0, hv1, hv2, hv3⟩ := prep_of (M1.view.read (Elt F) f1) (M2.view.read (Elt F) f2)
    rcases group_cases i with ⟨hc2, hc3, hc4, hg⟩ | ⟨hc2, hc3, hc4, hg, hg'⟩ | ⟨hc2, hc3, hc4, hg⟩ <;>
      iintro ⟨H0, H1, H2, H3, H4, H5, Ha, ⟨Hk, Hv0, Hv1, Hv2, Hv3⟩, HQ⟩ <;>
      sl_exec! <;> sl_step <;> subst hp ha <;> iapply HQ <;> (isplitl [H0]; · iexact H0) <;> (isplitl [H1]; · iexact H1) <;>
      (isplitl [H2]; · iexact H2) <;> (isplitl [H3]; · iexact H3) <;> (isplitl [H4]; · iexact H4) <;>
      (isplitl [Hk Hv0 Hv1 Hv2 Hv3]
       · isplitl [Hk]; · exact pts_of_eq ((writes_whole _ _ _).trans hk)
         isplitl [Hv0]; · exact pts_of_eq ((writes_whole _ _ _).trans hv0)
         isplitl [Hv1]; · exact pts_of_eq ((writes_whole _ _ _).trans hv1)
         isplitl [Hv2]; · exact pts_of_eq ((writes_whole _ _ _).trans hv2)
         exact pts_of_eq ((writes_whole _ _ _).trans hv3))
    · isplitl [Ha]
      · refine pts_of_eq ?_
        refine acc_set (i 1) (i 2) a _ o1 hg ?_
        refine (pay18_eq _ _ _ _ _ _ _ _ _ _).trans ?_
        exact contrib_of rfl rfl rfl rfl (cov_window _ _ _ hk) (cov_window _ _ _ hk) (cov_window _ _ _ hk) (cov_window _ _ _ hk)
          (cov_full _ _ _ hv0) (cov_full _ _ _ hv1) (cov_full _ _ _ hv2) (cov_full _ _ _ hv3) rfl rfl rfl rfl
      · exact out_give fun h => by omega
    · isplitl [Ha]
      · refine pts_of_eq ?_
        refine acc_add (i 1) (i 2) a _ _ o2 o2 hg ?_
        exact contrib_of rfl rfl rfl rfl (cov_window _ _ _ hk) (cov_window _ _ _ hk) (cov_window _ _ _ hk) (cov_window _ _ _ hk)
          (cov_full _ _ _ hv0) (cov_full _ _ _ hv1) (cov_full _ _ _ hv2) (cov_full _ _ _ hv3) rfl rfl rfl rfl
      · exact out_give fun h => by omega
    · isplitl [Ha]
      · refine pts_of_eq ?_
        refine acc_add (i 1) (i 2) a _ _ o2 o2 hg ?_
        exact contrib_of rfl rfl rfl rfl (cov_window _ _ _ hk) (cov_window _ _ _ hk) (cov_window _ _ _ hk) (cov_window _ _ _ hk)
          (cov_full _ _ _ hv0) (cov_full _ _ _ hv1) (cov_full _ _ _ hv2) (cov_full _ _ _ hv3) rfl rfl rfl rfl
      · refine out_give fun _ => ?_
        refine (View.read_writes_full _ _ _ _ []).trans ?_
        refine out_add (i 1) (i 2) a _ _ _ o2 o2 o3 hg rfl ?_
        exact contrib_of rfl rfl rfl rfl (cov_window _ _ _ hk) (cov_window _ _ _ hk) (cov_window _ _ _ hk) (cov_window _ _ _ hk)
          (cov_full _ _ _ hv0) (cov_full _ _ _ hv1) (cov_full _ _ _ hv2) (cov_full _ _ _ hv3) rfl rfl rfl rfl
  · rw [if_neg c1] at hp
    have hc1 := e1.not.mpr c1
    have hr2 := View.readAt_full (Memref.whole cc0_scratch2).view p.v0 inb_S4096x128_S4096x128_0_0
    have hr3 := View.readAt_full (Memref.whole cc0_scratch3).view p.v1 inb_S4096x128_S4096x128_0_0
    have hr5 := View.readAt_full (Memref.whole cc0_scratch4).view p.v2 inb_S4096x128_S4096x128_0_0
    have hr6 := View.readAt_full (Memref.whole cc0_scratch5).view p.v3 inb_S4096x128_S4096x128_0_0
    rcases group_cases i with ⟨hc2, hc3, hc4, hg⟩ | ⟨hc2, hc3, hc4, hg, hg'⟩ | ⟨hc2, hc3, hc4, hg⟩ <;>
      iintro ⟨H0, H1, H2, H3, H4, H5, Ha, ⟨Hk, Hv0, Hv1, Hv2, Hv3⟩, HQ⟩ <;>
      sl_exec! <;> sl_step <;> subst hp ha <;> iapply HQ <;> (isplitl [H0]; · iexact H0) <;> (isplitl [H1]; · iexact H1) <;>
      (isplitl [H2]; · iexact H2) <;> (isplitl [H3]; · iexact H3) <;> (isplitl [H4]; · iexact H4) <;>
      (isplitl [Hk Hv0 Hv1 Hv2 Hv3]
       · iframe)
    · isplitl [Ha]
      · refine pts_of_eq ?_
        refine acc_set (i 1) (i 2) a _ o1 hg ?_
        refine (pay18_eq _ _ _ _ _ _ _ _ _ _).trans ?_
        exact contrib_of rfl rfl rfl rfl rfl rfl rfl rfl
          rfl rfl rfl rfl rfl rfl rfl rfl
      · exact out_give fun h => by omega
    · isplitl [Ha]
      · refine pts_of_eq ?_
        refine acc_add (i 1) (i 2) a _ _ o2 o2 hg ?_
        exact contrib_of rfl rfl rfl rfl rfl rfl rfl rfl
          rfl rfl rfl rfl rfl rfl rfl rfl
      · exact out_give fun h => by omega
    · isplitl [Ha]
      · refine pts_of_eq ?_
        refine acc_add (i 1) (i 2) a _ _ o2 o2 hg ?_
        exact contrib_of rfl rfl rfl rfl rfl rfl rfl rfl
          rfl rfl rfl rfl rfl rfl rfl rfl
      · refine out_give fun _ => ?_
        refine (View.read_writes_full _ _ _ _ []).trans ?_
        refine out_add (i 1) (i 2) a _ _ _ o2 o2 o3 hg rfl ?_
        exact contrib_of rfl rfl rfl rfl rfl rfl rfl rfl
          rfl rfl rfl rfl rfl rfl rfl rfl

end Cert.Proof.KI
end
-- ==== Proof.Run.lean ====
/-
  The kernel's run over its whole grid, over the idealized program. A point `t` is batch `t / 64`, group `t / 16 % 4`,
  row block `t % 16`. What is held between points: the prepared group of the point before, and in every row block of
  the accumulator touched in the last sixteen points the sum of its groups' contributions so far.
-/
module

public import proofs.«01_k».proof.Proof.Body

@[expose] public section

set_option maxRecDepth 16384
set_option maxHeartbeats 2000000

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid's points -/

/-- A point's group and row block. -/
theorem coords_val : ∀ t : Fin grid0.N, (grid0.coords t 1).val = t.val / 16 % 4 ∧ (grid0.coords t 2).val = t.val % 16 := by
  decide +kernel

/-- A point's group, and its row block. -/
def grp (t : Fin cfg0.N) : Fin 4 := grid0.coords t 1
/-- A point's row block. -/
def blkRow (t : Fin cfg0.N) : Fin 16 := grid0.coords t 2

/-- A point's group by its number. -/
theorem grp_val (t : Fin cfg0.N) : (grp t).val = t.val / 16 % 4 := (coords_val t).1
/-- A point's row block by its number. -/
theorem blkRow_val (t : Fin cfg0.N) : (blkRow t).val = t.val % 16 := (coords_val t).2

/-- The point numbered `n` (counted round the grid, so that every number names one). -/
def pn (n : ℕ) : Fin cfg0.N := ⟨n % 256, lt_of_lt_of_eq (Nat.mod_lt _ (by norm_num)) N_0.symm⟩

/-- There are 256 points. -/
theorem point_lt (t : Fin cfg0.N) : t.val < 256 := lt_of_lt_of_eq t.isLt N_0

/-- A point is the point of its number. -/
theorem pn_val (t : Fin cfg0.N) : pn t.val = t := Fin.ext (Nat.mod_eq_of_lt (point_lt t))

/-! ## What a point reads and adds -/

/-- The blocks point `t` reads: of q, k, v, the output weights and the bias. -/
def bq (c : Dev nD) (t : Fin cfg0.N) : Vec F S1x256x256 .f32 := iblk m c 0 t
/-- The block of keys at a point. -/
def bk (c : Dev nD) (t : Fin cfg0.N) : Vec F S1x4096x256 .f32 := iblk m c 1 t
/-- The block of values at a point. -/
def bv (c : Dev nD) (t : Fin cfg0.N) : Vec F S1x4096x256 .f32 := iblk m c 2 t
/-- The block of weights at a point. -/
def bw (c : Dev nD) (t : Fin cfg0.N) : Vec F S256x64 .f32 := iblk m c 3 t
/-- The bias at a point. -/
def bb (c : Dev nD) (t : Fin cfg0.N) : Vec F S1x64 .f32 := iblk m c 4 t

/-- The group's preparation at point `t`. -/
def prepAt (c : Dev nD) (t : Fin cfg0.N) : Prep F := prep (bk m c t) (bv m c t)

/-- What point `t` adds to its rows. -/
def addAt (c : Dev nD) (t : Fin cfg0.N) : FVec F S256x64 .f32 := contrib (bq m c t) (prepAt m c t) (bw m c t)

/-- The sum of the contributions of groups `0, …, g`, from the point numbered `b` on (groups lie 16 points apart). -/
def sumTo (c : Dev nD) (b : ℕ) : ℕ → FVec F S256x64 .f32
  | 0 => addAt m c (pn b)
  | g + 1 => addf (sumTo c b g) (addAt m c (pn (b + 16 * (g + 1))))

/-- The number of the first group's point of point `n`'s batch and row block. -/
def base (n : ℕ) : ℕ := n / 64 * 64 + n % 16

/-- What holds of the accumulator `a` and the prepared group `p` before point `n`: the preparation is the last point's, and
    a row block last touched by point `t` holds its groups' sum up to `t`'s group. -/
structure Inv (c : Dev nD) (n : ℕ) (a : Vec F S4096x64 .f32) (p : Prep F) : Prop where
  prepared : ∀ t : Fin cfg0.N, t.val + 1 = n → p = prepAt m c t
  rows : ∀ t : Fin cfg0.N, t.val < n → n ≤ t.val + 16 → rows (blkRow t) a = sumTo m c (base t.val) (t.val / 16 % 4)

/-- What the output's staging buffer holds after a last group's point. -/
def outAt (c : Dev nD) (t : Fin cfg0.N) : Vec F S1x256x64 .f32 := k0_pay2 (sumTo m c (base t.val) 3) (bb m c t)

/-! ## The proof data -/

/-- The proof data on core `c`: every input's buffer is left as found; the output's holds the finished rows after a last
    group's point, and after any other point what it holds is not said; the accumulator and the preparation as `Inv` says. -/
def rdat (_ : Fin 1) (c : Dev nD) : RDat τ (Elt F) Unit ℕ (UR sig nD τ) ℕ cfg0 c where
  A w := V m c (Pipeline.arrRef spec0 w)
  after w t Y X := match w, Y, X with
    | ⟨0, _⟩, Y, X => Y = X
    | ⟨1, _⟩, Y, X => Y = X
    | ⟨2, _⟩, Y, X => Y = X
    | ⟨3, _⟩, Y, X => Y = X
    | ⟨4, _⟩, Y, X => Y = X
    | ⟨5, _⟩, _, X => t.val / 16 % 4 = 3 → X = outAt m c t
  Φ n := iprop(∃ (a : Vec F S4096x64 .f32) (p : Prep F), ⌜Inv m c n.val a p⌝ ∗ pt c (Memref.whole cc0_scratch0) a ∗ prepared c p ∗ ∃ r, prngReg c r)
  q _ := fullShare
  owed _ := 0

/-- The arrays that the run starts from. -/
theorem A_eq (c : Dev nD) (w : Fin cfg0.W) : (rdat m 0 c).A w = V m c (Pipeline.arrRef spec0 w) := by dsimp only [rdat]

/-- What the body finds in each input's staging buffer is the input's block. -/
theorem found0 (c : Dev nD) (t : Fin cfg0.N) (Y) (h : (rdat m 0 c).Finds 0 t Y) : Y = bq m c t := by
  obtain ⟨d, rfl⟩ := RDat.finds_in_eq_fetched (rdat m 0 c) 0 rfl (fun _ _ _ => rfl) (fun _ _ _ h => Eq.symm h) t Y h
  unfold RDat.fetched RDat.blockOf bq iblk; rw [A_eq]; rfl
/-- What a point finds in the window of the keys. -/
theorem found1 (c : Dev nD) (t : Fin cfg0.N) (Y) (h : (rdat m 0 c).Finds 1 t Y) : Y = bk m c t := by
  obtain ⟨d, rfl⟩ := RDat.finds_in_eq_fetched (rdat m 0 c) 1 rfl (fun _ _ _ => rfl) (fun _ _ _ h => Eq.symm h) t Y h
  unfold RDat.fetched RDat.blockOf bk iblk; rw [A_eq]; rfl
/-- What a point finds in the window of the values. -/
theorem found2 (c : Dev nD) (t : Fin cfg0.N) (Y) (h : (rdat m 0 c).Finds 2 t Y) : Y = bv m c t := by
  obtain ⟨d, rfl⟩ := RDat.finds_in_eq_fetched (rdat m 0 c) 2 rfl (fun _ _ _ => rfl) (fun _ _ _ h => Eq.symm h) t Y h
  unfold RDat.fetched RDat.blockOf bv iblk; rw [A_eq]; rfl
/-- What a point finds in the window of the weights. -/
theorem found3 (c : Dev nD) (t : Fin cfg0.N) (Y) (h : (rdat m 0 c).Finds 3 t Y) : Y = bw m c t := by
  obtain ⟨d, rfl⟩ := RDat.finds_in_eq_fetched (rdat m 0 c) 3 rfl (fun _ _ _ => rfl) (fun _ _ _ h => Eq.symm h) t Y h
  unfold RDat.fetched RDat.blockOf bw iblk; rw [A_eq]; rfl
/-- What a point finds in the window of the bias. -/
theorem found4 (c : Dev nD) (t : Fin cfg0.N) (Y) (h : (rdat m 0 c).Finds 4 t Y) : Y = bb m c t := by
  obtain ⟨d, rfl⟩ := RDat.finds_in_eq_fetched (rdat m 0 c) 4 rfl (fun _ _ _ => rfl) (fun _ _ _ h => Eq.symm h) t Y h
  unfold RDat.fetched RDat.blockOf bb iblk; rw [A_eq]; rfl

/-- Two points with one k block index, and one v block index, read the same k and v blocks. -/
theorem bk_congr (c : Dev nD) {t t' : Fin cfg0.N} (h : (cfg0.win 1).index t = (cfg0.win 1).index t') : bk m c t = bk m c t' := by
  have e := RDat.fetched_congr (rdat m 0 c) 1 h rfl (fun _ => Classical.arbitrary _)
  unfold RDat.fetched RDat.blockOf at e; rw [A_eq] at e; exact e
/-- Points that read the same block of values find the same values. -/
theorem bv_congr (c : Dev nD) {t t' : Fin cfg0.N} (h : (cfg0.win 2).index t = (cfg0.win 2).index t') : bv m c t = bv m c t' := by
  have e := RDat.fetched_congr (rdat m 0 c) 2 h rfl (fun _ => Classical.arbitrary _)
  unfold RDat.fetched RDat.blockOf at e; rw [A_eq] at e; exact e

/-- Inside a group the preparation does not change from one point to the next. -/
theorem prepAt_pred (c : Dev nD) (t t' : Fin cfg0.N) (h : t.val % 16 ≠ 0) (ht : t'.val + 1 = t.val) : prepAt m c t' = prepAt m c t := by
  have e : (⟨t.val - 1, Nat.lt_of_le_of_lt (Nat.sub_le _ _) t.isLt⟩ : Fin cfg0.N) = t' := Fin.ext (by show t.val - 1 = t'.val; omega)
  have h1 := ((cfg0.win 1).index_eq_of_fetch rfl t (Bool.eq_false_iff.mpr fun hh => h ((fetch0_1 t).mp hh))).2
  have h2 := ((cfg0.win 2).index_eq_of_fetch rfl t (Bool.eq_false_iff.mpr fun hh => h ((fetch0_2 t).mp hh))).2
  rw [e] at h1 h2
  unfold prepAt
  rw [bk_congr m c h1, bv_congr m c h2]

/-! ## One step of what is held -/

/-- The preparation a point leaves is its own: it made it, or the point before it left the same. -/
theorem prep_step (c : Dev nD) (t : Fin cfg0.N) {a : Vec F S4096x64 .f32} {p : Prep F} (h : Inv m c t.val a p) :
    prepAt m c t = if (blkRow t).val = 0 then prep (bk m c t) (bv m c t) else p := by
  by_cases h0 : (blkRow t).val = 0
  · rw [if_pos h0]; rfl
  · rw [if_neg h0]
    rw [blkRow_val t] at h0
    have hp : t.val - 1 + 1 = t.val := by omega
    rw [h.prepared ⟨t.val - 1, Nat.lt_of_le_of_lt (Nat.sub_le _ _) t.isLt⟩ hp]
    exact (prepAt_pred m c t _ h0 hp).symm

/-- The rows of other row blocks survive a point. -/
theorem rows_accum_ne (g : Fin 4) (n n' : Fin 16) (hn : n'.val ≠ n.val) (a : Vec F S4096x64 .f32) (C : FVec F S256x64 .f32) :
    rows n' (accum g n a C) = rows n' a :=
  VecWindow.window_put_of_disjoint a ![256 * n.val, 0] S256x64.size ![256 * n'.val, 0] S256x64.size (rows_inb n') _ 0 (by
    show 256 * n'.val + 256 ≤ 256 * n.val ∨ 256 * n.val + 256 ≤ 256 * n'.val
    omega)

/-- The invariant after a point. -/
theorem inv_step (c : Dev nD) (t : Fin cfg0.N) {a : Vec F S4096x64 .f32} {p : Prep F} (h : Inv m c t.val a p) :
    Inv m c (t.val + 1) (accum (grp t) (blkRow t) a (addAt m c t)) (prepAt m c t) := by
  have hg := grp_val t
  have hr := blkRow_val t
  have ht := point_lt t
  refine ⟨fun u hu => ?_, fun u h1 h2 => ?_⟩
  · obtain rfl : t = u := Fin.ext (by omega)
    rfl
  · by_cases e : u = t
    · subst e
      rw [rows_accum]
      by_cases g0 : (grp u).val = 0
      · rw [if_pos g0]
        rw [hg] at g0
        rw [g0]
        show addAt m c u = addAt m c (pn (base u.val))
        rw [show base u.val = u.val by unfold base; omega, pn_val]
      · rw [if_neg g0]
        rw [hg] at g0
        have hu : u.val - 16 < cfg0.N := Nat.lt_of_le_of_lt (Nat.sub_le _ _) u.isLt
        have hrow := h.rows ⟨u.val - 16, hu⟩ (by show u.val - 16 < u.val; omega) (by show u.val ≤ u.val - 16 + 16; omega)
        have hc : blkRow (⟨u.val - 16, hu⟩ : Fin cfg0.N) = blkRow u := Fin.ext (by
          refine (blkRow_val ⟨u.val - 16, hu⟩).trans (Eq.trans ?_ hr.symm)
          show (u.val - 16) % 16 = u.val % 16
          omega)
        rw [hc] at hrow
        rw [hrow]
        show addf (sumTo m c (base (u.val - 16)) ((u.val - 16) / 16 % 4)) (addAt m c u) = _
        obtain ⟨k, hk⟩ : ∃ k, u.val / 16 % 4 = k + 1 := ⟨u.val / 16 % 4 - 1, by omega⟩
        rw [show base (u.val - 16) = base u.val by unfold base; omega, show (u.val - 16) / 16 % 4 = k by omega, hk]
        show _ = addf (sumTo m c (base u.val) k) (addAt m c (pn (base u.val + 16 * (k + 1))))
        rw [show base u.val + 16 * (k + 1) = u.val by unfold base; omega, pn_val]
    · have hne : u.val ≠ t.val := fun hh => e (Fin.ext hh)
      rw [rows_accum_ne]
      · exact h.rows u (by omega) (by omega)
      · rw [hr, blkRow_val u]; omega

/-- What a last group's point leaves in the output's buffer. -/
theorem out_step (c : Dev nD) (t : Fin cfg0.N) {a : Vec F S4096x64 .f32} {p : Prep F} (h : Inv m c (t.val + 1) a p) {X5 : Vec F S1x256x64 .f32}
    (ho : outOK (grp t) (blkRow t) a (bb m c t) X5) (ht : t.val / 16 % 4 = 3) : X5 = outAt m c t := by
  rw [ho ((grp_val t).trans ht), h.rows t (by omega) (by omega), ht]; rfl

/-! ## The library's body obligation -/

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- A whole memref owned is its buffer held at contents that read as said. -/
theorem owns_pt {sp : Space} {S : Shape} {e : EltTy} (c : Dev nD) (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- The body at a point keeps what is held. -/
theorem body_obligation (c : Dev nD) : (rdat m 0 c).BodyObligation (defs₀ (F := F)) Variants.none () Set.univ := fun t Y hY => by
  have e0 := found0 m c t _ (hY 0)
  have e1 := found1 m c t _ (hY 1)
  have e2 := found2 m c t _ (hY 2)
  have e3 := found3 m c t _ (hY 3)
  have e4 := found4 m c t _ (hY 4)
  rw [bigSep_W0, bigSep_W0, defs₀_row]
  have w0 := owns_pt (F := F) c (st0_0 t) (hstage0_0 ((cfg0.slots t 0).cast nbuf0_0))
  have w1 := owns_pt (F := F) c (st0_1 t) (hstage0_1 ((cfg0.slots t 1).cast nbuf0_1))
  have w2 := owns_pt (F := F) c (st0_2 t) (hstage0_2 ((cfg0.slots t 2).cast nbuf0_2))
  have w3 := owns_pt (F := F) c (st0_3 t) (hstage0_3 ((cfg0.slots t 3).cast nbuf0_3))
  have w4 := owns_pt (F := F) c (st0_4 t) (hstage0_4 ((cfg0.slots t 4).cast nbuf0_4))
  have w5 := owns_pt (F := F) c (st0_5 t) (hstage0_5 ((cfg0.slots t 5).cast nbuf0_5))
  simp only [w0, w1, w2, w3, w4, w5]
  unfold RDat.owesAt Pipeline.owesWithin
  rw [show (rdat m 0 c).owed t.castSucc = 0 from rfl, show (rdat m 0 c).owed t.succ = 0 from rfl]
  dsimp only [rdat]
  iintro ⟨⟨%a, %p, %hI, Ha, Hp, Hr⟩, ⟨%W, %hW, HO⟩, ⟨%f0, %hf0, H0⟩, ⟨%f1, %hf1, H1⟩, ⟨%f2, %hf2, H2⟩, ⟨%f3, %hf3, H3⟩, ⟨%f4, %hf4, H4⟩, ⟨%f5, %hf5, H5⟩⟩
  have q0 := hf0.trans e0
  have q1 := hf1.trans e1
  have q2 := hf2.trans e2
  have q3 := hf3.trans e3
  have q4 := hf4.trans e4
  iapply (run c (grid0.coords t) _ _ _ _ _ _ _ _ _ _ _ _ f0 f1 f2 f3 f4 f5 a p (prepAt m c t) (by rw [q1, q2]; exact prep_step m c t hI)
    (accum (grp t) (blkRow t) a (addAt m c t)) (by rw [q0, q3]; rfl) Set.univ _)
  isplitl [H0]; · iexact H0
  isplitl [H1]; · iexact H1
  isplitl [H2]; · iexact H2
  isplitl [H3]; · iexact H3
  isplitl [H4]; · iexact H4
  isplitl [H5]; · iexact H5
  isplitl [Ha]; · iexact Ha
  isplitl [Hp]; · iexact Hp
  iintro ⟨H0, H1, H2, H3, H4, Hp, Ha, ⟨%f5', %ho, H5⟩⟩
  isplitl [Ha Hp Hr]
  · iexists (accum (grp t) (blkRow t) a (addAt m c t)), (prepAt m c t)
    isplitr; · ipureintro; exact inv_step m c t hI
    isplitl [Ha]; · iexact Ha
    isplitl [Hp]; · iexact Hp
    iexact Hr
  isplitl [HO]
  · iexists W; isplitr; · ipureintro; exact fun _ _ => Or.inl trivial
    iexact HO
  isplitl [H0]; · iexists (Y 0); isplitr; · ipureintro; rfl
                  iexists f0; isplitr; · ipureintro; exact hf0
                  iexact H0
  isplitl [H1]; · iexists (Y 1); isplitr; · ipureintro; rfl
                  iexists f1; isplitr; · ipureintro; exact hf1
                  iexact H1
  isplitl [H2]; · iexists (Y 2); isplitr; · ipureintro; rfl
                  iexists f2; isplitr; · ipureintro; exact hf2
                  iexact H2
  isplitl [H3]; · iexists (Y 3); isplitr; · ipureintro; rfl
                  iexists f3; isplitr; · ipureintro; exact hf3
                  iexact H3
  isplitl [H4]; · iexists (Y 4); isplitr; · ipureintro; rfl
                  iexists f4; isplitr; · ipureintro; exact hf4
                  iexact H4
  rw [q4] at ho
  iexists ((st0_5 t).view.read (Elt F) f5')
  isplitr; · ipureintro; exact out_step m c t (inv_step m c t hI) ho
  iexists f5'
  isplitr; · ipureintro; rfl
  iexact H5

/-! ## The run -/

/-- Before the first point nothing is required of the sum or of the prepared windows. -/
theorem inv_zero (c : Dev nD) (a : Vec F S4096x64 .f32) (p : Prep F) : Inv m c 0 a p :=
  ⟨fun _ h => absurd h (Nat.succ_ne_zero _), fun _ h => absurd h (Nat.not_lt_zero _)⟩

/-- Entering the run: the scratch may hold anything. -/
theorem enter (c : Dev nD) : (Pipeline.ΦA (cfgs 0).spec c : sProp 𝕄) ⊢ (rdat m 0 c).Φ 0 := by
  dsimp only [rdat]
  unfold Pipeline.ΦA prepared
  rw [show (cfgs 0).spec = spec0 from rfl, scopedRest0_eq]
  iintro ⟨⟨⟨%a, Ha⟩, ⟨%k, Hk⟩, ⟨%v0, H0⟩, ⟨%v1, H1⟩, ⟨%v2, H2⟩, ⟨%v3, H3⟩⟩, Hr⟩
  iexists a, (⟨k, v0, v1, v2, v3⟩ : Prep F)
  isplitr; · ipureintro; exact inv_zero m c _ _
  isplitl [Ha]; · iexact Ha
  isplitl [Hk H0 H1 H2 H3]
  · isplitl [Hk]; · iexact Hk
    isplitl [H0]; · iexact H0
    isplitl [H1]; · iexact H1
    isplitl [H2]; · iexact H2
    iexact H3
  iexact Hr

/-- Leaving the run: what the scratch holds is forgotten. -/
theorem leave (c : Dev nD) : (rdat m 0 c).Φ (Fin.last (cfgs 0).N) ⊢ (Pipeline.ΦA (cfgs 0).spec c : sProp 𝕄) := by
  dsimp only [rdat]
  unfold Pipeline.ΦA prepared
  rw [show (cfgs 0).spec = spec0 from rfl, scopedRest0_eq]
  iintro ⟨%a, %p, -, Ha, ⟨Hk, H0, H1, H2, H3⟩, Hr⟩
  isplitr [Hr]
  · isplitl [Ha]; · iexists a; iexact Ha
    isplitl [Hk]; · iexists p.k; iexact Hk
    isplitl [H0]; · iexists p.v0; iexact H0
    isplitl [H1]; · iexists p.v1; iexact H1
    isplitl [H2]; · iexists p.v2; iexact H2
    iexists p.v3; iexact H3
  iexact Hr

set_option backward.isDefEq.respectTransparency.types false in
/-- From any memory with zero counters, every run of the program ends, with the windows' arrays as the proof data says,
    every other buffer outside the region as the region found it, and every counter at zero. -/
theorem run_main :
    θ_run defs (onTc (τ := τ) (main (F := F))) (s₀ m ρ)
      (fun r => Pipeline.RDat.FramePost (cfgs 0) (fun c => rdat m 0 c) (V m) r ∧ r.2.sem = fun _ => 0) :=
  Pipeline.RDat.θ_run_frame_track (Q' := _) cfgs (0 : Fin 1) launch0 defs₀ Variants.none (fun c => rdat m 0 c) m ρ main
    (hbody := fun c => body_obligation m c) (hshare := fun c w => RDat.share_full (rdat m 0 c) (fun _ => rfl) w)
    (howed := fun _ _ => rfl) (V := V m) (hmain := hmain m Variants.none) (hA := A_eq m)
    (hin := enter m) (hout := leave m)

variable {m}

/-- The argument arrays after a run are as launched. -/
theorem args_kept {r : PUnit × MemSt nD τ sig (Elt F)}
    (h : Pipeline.RDat.FramePost (cfgs 0) (fun c => rdat m 0 c) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨((h.arr_in c 0 rfl).trans (A_eq m c 0)).trans (V_main_arg0 m c), ((h.arr_in c 1 rfl).trans (A_eq m c 1)).trans (V_main_arg1 m c),
    ((h.arr_in c 2 rfl).trans (A_eq m c 2)).trans (V_main_arg2 m c), ((h.arr_in c 3 rfl).trans (A_eq m c 3)).trans (V_main_arg3 m c),
    ((h c).2 main_arg4 (Pipeline.mem_restRefs_of main_arg4 (by decide) (by decide))).trans (V_main_arg4 m c)⟩

end Cert.Proof.KI
-- ==== Proof.Whole.lean ====
/-
  The compiled kernel's run, for its frame: every grid point runs to its end, the inputs' staging buffers are left as
  found, and of the other buffers only that they are held is kept.
-/
module

public import proofs.«01_k».proof.Proof.Gen.Kernel.Frame
public import proofs.«01_k».proof.Proof.Gen.Kernel.Skeleton

@[expose] public section

set_option maxRecDepth 16384
set_option maxHeartbeats 2000000

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point's three tests go one of three ways: first group, last group, or one between. -/
theorem group_cases (i : grid0.Coords) :
    (k0_cond2 i = 1#1 ∧ ¬ k0_cond3 i = 1#1 ∧ ¬ k0_cond4 i = 1#1) ∨ (¬ k0_cond2 i = 1#1 ∧ k0_cond3 i = 1#1 ∧ ¬ k0_cond4 i = 1#1)
      ∨ (¬ k0_cond2 i = 1#1 ∧ k0_cond3 i = 1#1 ∧ k0_cond4 i = 1#1) := by
  have h : ∀ n : Fin 4,
      ((Scalar.cmpi .ne (Scalar.extui (Scalar.cmpi .eq (BitVec.ofNat 32 n.val) 0#32) : BitVec 32) 0#32 = 1#1)
        ∧ ¬ (Scalar.cmpi .ne (Scalar.extui (Scalar.cmpi .sgt (BitVec.ofNat 32 n.val) 0#32) : BitVec 32) 0#32 = 1#1)
        ∧ ¬ (Scalar.cmpi .ne (Scalar.extui (Scalar.cmpi .eq (BitVec.ofNat 32 n.val) 3#32) : BitVec 32) 0#32 = 1#1))
      ∨ (¬ (Scalar.cmpi .ne (Scalar.extui (Scalar.cmpi .eq (BitVec.ofNat 32 n.val) 0#32) : BitVec 32) 0#32 = 1#1)
        ∧ (Scalar.cmpi .ne (Scalar.extui (Scalar.cmpi .sgt (BitVec.ofNat 32 n.val) 0#32) : BitVec 32) 0#32 = 1#1)
        ∧ ¬ (Scalar.cmpi .ne (Scalar.extui (Scalar.cmpi .eq (BitVec.ofNat 32 n.val) 3#32) : BitVec 32) 0#32 = 1#1))
      ∨ (¬ (Scalar.cmpi .ne (Scalar.extui (Scalar.cmpi .eq (BitVec.ofNat 32 n.val) 0#32) : BitVec 32) 0#32 = 1#1)
        ∧ (Scalar.cmpi .ne (Scalar.extui (Scalar.cmpi .sgt (BitVec.ofNat 32 n.val) 0#32) : BitVec 32) 0#32 = 1#1)
        ∧ (Scalar.cmpi .ne (Scalar.extui (Scalar.cmpi .eq (BitVec.ofNat 32 n.val) 3#32) : BitVec 32) 0#32 = 1#1)) := by decide
  exact h (i 1)

/-- Memref `M`'s buffer on core `c` held whole, at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f
/-- Memref `M`'s buffer on core `c` held whole, at something. -/
def anyAt (c : Dev nD) {sp : Space} {S : Shape} {e : EltTy} (M : Memref sig .tc sp S e) : sProp 𝕄 :=
  iprop(∃ f : Buf (Elt F) (M.view.loc (c : Thread nD τ)), pt c M f)

/-- A buffer of known content is a buffer of some content. -/
theorem forget (c : Dev nD) {sp : Space} {S : Shape} {e : EltTy} (M : Memref sig .tc sp S e) (f : Buf (Elt F) (M.view.loc (c : Thread nD τ))) :
    pt c M f ⊢ anyAt c M := by
  unfold anyAt; iintro H; iexists f; iexact H

/-- The six scratch buffers, each at something. -/
def scratch (c : Dev nD) : sProp 𝕄 :=
  iprop(anyAt c (Memref.whole cc0_scratch0) ∗ anyAt c (Memref.whole cc0_scratch1) ∗ anyAt c (Memref.whole cc0_scratch2)
    ∗ anyAt c (Memref.whole cc0_scratch3) ∗ anyAt c (Memref.whole cc0_scratch4) ∗ anyAt c (Memref.whole cc0_scratch5))

/-- The body at any point, on any contents: it runs to its end and leaves the inputs' buffers as found. -/
theorem run (c : Dev nD) (i : grid0.Coords)
    (M0 : Memref sig .tc .vmem S1x256x256 .f32) (h0 : M0.IsWhole) (M1 : Memref sig .tc .vmem S1x4096x256 .f32) (h1 : M1.IsWhole)
    (M2 : Memref sig .tc .vmem S1x4096x256 .f32) (h2 : M2.IsWhole) (M3 : Memref sig .tc .vmem S256x64 .f32) (h3 : M3.IsWhole)
    (M4 : Memref sig .tc .vmem S1x64 .f32) (h4 : M4.IsWhole) (M5 : Memref sig .tc .vmem S1x256x64 .f32) (h5 : M5.IsWhole)
    (f0 : Buf (Elt F) (M0.view.loc (c : Thread nD τ))) (f1 : Buf (Elt F) (M1.view.loc (c : Thread nD τ))) (f2 : Buf (Elt F) (M2.view.loc (c : Thread nD τ)))
    (f3 : Buf (Elt F) (M3.view.loc (c : Thread nD τ))) (f4 : Buf (Elt F) (M4.view.loc (c : Thread nD τ))) (f5 : Buf (Elt F) (M5.view.loc (c : Thread nD τ)))
    (E : Set ℕ) (Q : PUnit → sProp 𝕄) :
    iprop(pt c M0 f0 ∗ pt c M1 f1 ∗ pt c M2 f2 ∗ pt c M3 f3 ∗ pt c M4 f4 ∗ pt c M5 f5 ∗ scratch c
        ∗ (iprop(pt c M0 f0 ∗ pt c M1 f1 ∗ pt c M2 f2 ∗ pt c M3 f3 ∗ pt c M4 f4 ∗ anyAt c M5 ∗ scratch c) -∗ Q ⟨⟩))
      ⊢ wp frame (wpE (defs₀ (F := F)) Variants.none c none) E
          (cc0__mha_kernel i M0 h0 M1 h1 M2 h2 M3 h3 M4 h4 M5 h5 (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _)) Q := by
  simp only [cc0__mha_kernel_eq_skeleton]; unfold cc0__mha_kernel_skel
  simp only [k0_part1_eq_skeleton, k0_part2_eq_skeleton, k0_part3_eq_skeleton]
  unfold scratch
  have hsome : ∀ r, (anyAt c (Memref.whole r) : sProp 𝕄) = iprop(∃ f, pt c (Memref.whole r) f) := fun _ => rfl
  have o1 := k0_off1_eq i
  have o2 := k0_off2_eq i
  have o3 := k0_off3_eq i
  by_cases hc1 : Scalar.cmpi .ne (Scalar.extui (Scalar.cmpi .eq (BitVec.ofNat 32 (i 2).val) 0#32) : BitVec 32) 0#32 = 1#1 <;>
    rcases group_cases i with ⟨hc2, hc3, hc4⟩ | ⟨hc2, hc3, hc4⟩ | ⟨hc2, hc3, hc4⟩ <;>
      iintro ⟨H0, H1, H2, H3, H4, H5, ⟨Ha, Hk, Hv0, Hv1, Hv2, Hv3⟩, HQ⟩ <;>
      simp only [hsome] <;>
      icases Ha with ⟨%a, Ha⟩ <;> icases Hk with ⟨%k, Hk⟩ <;> icases Hv0 with ⟨%v0, Hv0⟩ <;> icases Hv1 with ⟨%v1, Hv1⟩ <;>
      icases Hv2 with ⟨%v2, Hv2⟩ <;> icases Hv3 with ⟨%v3, Hv3⟩ <;>
      sl_exec! <;> sl_step <;> iapply HQ <;> (isplitl [H0]; · iexact H0) <;> (isplitl [H1]; · iexact H1) <;>
      (isplitl [H2]; · iexact H2) <;> (isplitl [H3]; · iexact H3) <;> (isplitl [H4]; · iexact H4) <;>
      (isplitl [H5]; · iapply forget; iexact H5) <;> (isplitl [Ha]; · iexists _; iexact Ha) <;>
      (isplitl [Hk]; · iexists _; iexact Hk) <;> (isplitl [Hv0]; · iexists _; iexact Hv0) <;>
      (isplitl [Hv1]; · iexists _; iexact Hv1) <;> (isplitl [Hv2]; · iexists _; iexact Hv2) <;> (iexists _; iexact Hv3)

/-- The proof data on core `c`: the inputs' buffers left as found, nothing said of the output's, the scratches held. -/
def rdat (_ : Fin 1) (c : Dev nD) : RDat τ (Elt F) Unit ℕ (UR sig nD τ) ℕ cfg0 c where
  A w := V m c (Pipeline.arrRef spec0 w)
  after w _ Y X := w.val = 5 ∨ Y = X
  Φ _ := iprop(scratch c ∗ ∃ r, prngReg c r)
  q _ := fullShare
  owed _ := 0

/-- The arrays that the run starts from. -/
theorem A_eq (c : Dev nD) (w : Fin cfg0.W) : (rdat m 0 c).A w = V m c (Pipeline.arrRef spec0 w) := by dsimp only [rdat]

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- A whole memref owned is its buffer held at contents that read as said. -/
theorem owns_pt {sp : Space} {S : Shape} {e : EltTy} (c : Dev nD) (M : Memref sig .tc sp S e) (h : M.IsWhole) (X : S.Idx → Elt F e) :
    (owns (c : Thread nD τ) M fullShare X : sProp 𝕄)
      = iprop(∃ f : Buf (Elt F) (M.view.loc (c : Thread nD τ)), ⌜M.view.read (Elt F) f = X⌝ ∗ pt c M f) := by
  unfold owns; rw [h.set_eq_univ]

/-- A buffer still at the contents it was found at is given back as found. -/
theorem kept {sp : Space} {S : Shape} {e : EltTy} (c : Dev nD) (M : Memref sig .tc sp S e) (h : M.IsWhole) {Y : S.Idx → Elt F e} (k : Fin 6)
    {f : Buf (Elt F) (M.view.loc (c : Thread nD τ))} (hf : M.view.read (Elt F) f = Y) :
    pt c M f ⊢ iprop(∃ X, ⌜k.val = 5 ∨ Y = X⌝ ∗ (owns (c : Thread nD τ) M fullShare X : sProp 𝕄)) := by
  rw [funext (owns_pt c M h)]
  iintro H
  iexists Y; isplitr; · ipureintro; exact Or.inr rfl
  iexists f; isplitr; · ipureintro; exact hf
  iexact H

/-- The body at a point keeps what is held. -/
theorem body_obligation (c : Dev nD) : (rdat m 0 c).BodyObligation (defs₀ (F := F)) Variants.none () Set.univ := fun t Y _ => by
  rw [bigSep_W0, bigSep_W0, defs₀_row]
  have w0 := owns_pt (F := F) c (st0_0 t) (hstage0_0 ((cfg0.slots t 0).cast nbuf0_0)) (Y 0)
  have w1 := owns_pt (F := F) c (st0_1 t) (hstage0_1 ((cfg0.slots t 1).cast nbuf0_1)) (Y 1)
  have w2 := owns_pt (F := F) c (st0_2 t) (hstage0_2 ((cfg0.slots t 2).cast nbuf0_2)) (Y 2)
  have w3 := owns_pt (F := F) c (st0_3 t) (hstage0_3 ((cfg0.slots t 3).cast nbuf0_3)) (Y 3)
  have w4 := owns_pt (F := F) c (st0_4 t) (hstage0_4 ((cfg0.slots t 4).cast nbuf0_4)) (Y 4)
  have w5 := fun X => owns_pt (F := F) c (st0_5 t) (hstage0_5 ((cfg0.slots t 5).cast nbuf0_5)) X
  rw [w0, w1, w2, w3, w4, w5]
  unfold RDat.owesAt Pipeline.owesWithin
  rw [show (rdat m 0 c).owed t.castSucc = 0 from rfl, show (rdat m 0 c).owed t.succ = 0 from rfl]
  dsimp only [rdat]
  iintro ⟨⟨Hs, Hr⟩, ⟨%W, %hW, HO⟩, ⟨%f0, %hf0, H0⟩, ⟨%f1, %hf1, H1⟩, ⟨%f2, %hf2, H2⟩, ⟨%f3, %hf3, H3⟩, ⟨%f4, %hf4, H4⟩, ⟨%f5, %hf5, H5⟩⟩
  iapply (run c (grid0.coords t) _ _ _ _ _ _ _ _ _ _ _ _ f0 f1 f2 f3 f4 f5 Set.univ _)
  isplitl [H0]; · iexact H0
  isplitl [H1]; · iexact H1
  isplitl [H2]; · iexact H2
  isplitl [H3]; · iexact H3
  isplitl [H4]; · iexact H4
  isplitl [H5]; · iexact H5
  isplitl [Hs]; · iexact Hs
  unfold anyAt
  iintro ⟨H0, H1, H2, H3, H4, ⟨%f5', H5⟩, Hs⟩
  isplitl [Hs Hr]
  · isplitl [Hs]; · iexact Hs
    iexact Hr
  isplitl [HO]
  · iexists W; isplitr; · ipureintro; exact fun _ _ => Or.inl trivial
    iexact HO
  isplitl [H0]; · iapply (kept c (st0_0 t) (hstage0_0 ((cfg0.slots t 0).cast nbuf0_0)) 0 hf0); iexact H0
  isplitl [H1]; · iapply (kept c (st0_1 t) (hstage0_1 ((cfg0.slots t 1).cast nbuf0_1)) 1 hf1); iexact H1
  isplitl [H2]; · iapply (kept c (st0_2 t) (hstage0_2 ((cfg0.slots t 2).cast nbuf0_2)) 2 hf2); iexact H2
  isplitl [H3]; · iapply (kept c (st0_3 t) (hstage0_3 ((cfg0.slots t 3).cast nbuf0_3)) 3 hf3); iexact H3
  isplitl [H4]; · iapply (kept c (st0_4 t) (hstage0_4 ((cfg0.slots t 4).cast nbuf0_4)) 4 hf4); iexact H4
  iexists ((st0_5 t).view.read (Elt F) f5')
  isplitr; · ipureintro; exact Or.inl rfl
  rw [w5]
  iexists f5'
  isplitr; · ipureintro; rfl
  iexact H5

/-- The region's scratch buffers at something, with the generator's register, are the proof data's invariant. -/
theorem scratch_eq (c : Dev nD) : (Pipeline.ΦA (cfgs 0).spec c : sProp 𝕄) = iprop(scratch c ∗ ∃ r, prngReg c r) := by
  unfold Pipeline.ΦA scratch anyAt
  rw [show (cfgs 0).spec = spec0 from rfl, scopedRest0_eq]

set_option backward.isDefEq.respectTransparency.types false in
/-- From any memory with zero counters, every run of the program ends, with the inputs' arrays as launched, every other
    buffer outside the region as the region found it, and every counter at zero. -/
theorem run_main :
    θ_run defs (onTc (τ := τ) (main (F := F))) (s₀ m ρ)
      (fun r => Pipeline.RDat.FramePost (cfgs 0) (fun c => rdat m 0 c) (V m) r ∧ r.2.sem = fun _ => 0) :=
  Pipeline.RDat.θ_run_frame_track (Q' := _) cfgs (0 : Fin 1) launch0 defs₀ Variants.none (fun c => rdat m 0 c) m ρ main
    (hbody := fun c => body_obligation m c) (hshare := fun c w => RDat.share_full (rdat m 0 c) (fun _ => rfl) w)
    (howed := fun _ _ => rfl) (V := V m) (hmain := hmain m Variants.none) (hA := A_eq m)
    (hin := fun c => Entails.of_eq (scratch_eq c)) (hout := fun c => Entails.of_eq (scratch_eq c).symm)

variable {m}

/-- The argument arrays after a run are as launched. -/
theorem args_kept {r : PUnit × MemSt nD τ sig (Elt F)}
    (h : Pipeline.RDat.FramePost (cfgs 0) (fun c => rdat m 0 c) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨((h.arr_in c 0 rfl).trans (A_eq m c 0)).trans (V_main_arg0 m c), ((h.arr_in c 1 rfl).trans (A_eq m c 1)).trans (V_main_arg1 m c),
    ((h.arr_in c 2 rfl).trans (A_eq m c 2)).trans (V_main_arg2 m c), ((h.arr_in c 3 rfl).trans (A_eq m c 3)).trans (V_main_arg3 m c),
    ((h c).2 main_arg4 (Pipeline.mem_restRefs_of main_arg4 (by decide) (by decide))).trans (V_main_arg4 m c)⟩

end Cert.Proof.K
-- ==== Proof.Frames.lean ====
/-
  The frame claims and the claim that the idealized kernel is the kernel with its one constant named.
-/
module

public import proofs.«01_k».proof.Defs
public import proofs.«01_k».proof.Proof.Run
public import proofs.«01_k».proof.Proof.Whole
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The precondition's one shape fact. -/
theorem preFacts : Cert.Pre_finite_scores.Facts := ⟨by decide⟩

/-- The compiled kernel runs, leaves its arguments as launched and every counter at zero. -/
theorem frame_p : Cert.quiescent_Kernel := fun m ρ _ =>
  (θ_run Cert.Kernel.defs _ _).mono (fun _ h => ⟨fun c => K.args_kept h.1 c, h.2⟩) (K.run_main (F := Bits) m ρ)

/-- So does the idealized kernel. -/
theorem frame_pi : Cert.quiescent_KernelIdeal := fun m ρ _ =>
  (θ_run Cert.KernelIdeal.defs _ _).mono (fun _ h => ⟨fun c => KI.args_kept h.1 c, h.2⟩) (KI.run_main (F := Ideal) m ρ)

/-- So does the reference, which has no semaphores at all. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant has the value its name stands for. -/
theorem preserves : Cert.preserves_Kernel_KernelIdeal :=
  IdealRules.named_const.statement Cert.KernelIdeal.κ "log2e_over_8" .f32 0x3E38AA3B#32 (((8 * (Real.log 2))⁻¹ : ℝ) : EReal) rfl

end Cert.Proof

end
-- ==== Proof.Out.lean ====
/-
  The kernel's result array after its run, over the idealized program. Every point writes a block of it back; the block of
  batch `b` and row block `i` is last written by the last group's point, whose rows are finished, so the array holds at each
  of its elements what that point left.
-/
module

public import proofs.«01_k».proof.Proof.Run
public import Idealize.ShloMosaic.Lib.Pipeline.ArrRel

@[expose] public section

set_option maxRecDepth 16384

noncomputable section

namespace Cert.Proof.KI

open Cert.KernelIdeal Cert.KernelIdeal.Gen
open Idealize.ShloMosaic Idealize.ShloMosaic.TcCoe
open Idealize.SL Idealize.SL.RA Idealize.SL.Sem
open Idealize.ShloMosaic.Pipeline (RDat Cfg Window)

variable {F : FTy → Type} [FloatOps F] [Named F]
variable (m : (ℓ : Loc nD τ sig) → Buf (Elt F) ℓ) (ρ : Dev nD → PrngReg)

/-- The output's block index at a point: its batch and its row block. -/
theorem idx5 : ∀ t : Fin grid0.N, win0_5.index t = ![t.val / 64, t.val % 16, 0] := by decide +kernel

/-- A last group's block of the result is, after any later point, what that group's point left. -/
theorem out_kept (c : Dev nD) (t₀ : Fin cfg0.N) (h3 : t₀.val / 16 % 4 = 3) (y : S1x256x64.Idx) :
    ∀ n F', t₀.val < n → n ≤ 256 → (rdat m 0 c).ArrAt 5 n F' → F' (((cfg0.win 5).blk t₀).view.emb y) = outAt m c t₀ y := by
  intro n
  induction n with
  | zero => intro _ h; exact absurd h (Nat.not_lt_zero _)
  | succ n ih =>
    intro F' h1 h2 hF
    have hn : n < cfg0.N := lt_of_lt_of_eq h2 N_0.symm
    have hs := (rdat m 0 c).ArrAt_succ 5 ⟨n, hn⟩
    have hF' := (congrFun hs F').mp hF
    rw [if_pos (flush0_5 ⟨n, hn⟩)] at hF'
    obtain ⟨G₀, X, hG₀, ⟨Y, -, hX⟩, rfl⟩ := hF'
    by_cases e : n = t₀.val
    · obtain rfl : (⟨n, hn⟩ : Fin cfg0.N) = t₀ := Fin.ext e
      obtain rfl : X = outAt m c ⟨n, hn⟩ := hX h3
      exact View.write_emb_of_mem _ _ (Finset.mem_univ y)
    · refine Eq.trans ?_ (ih G₀ (by omega) (by omega) hG₀)
      refine View.write_of_not_mem _ _ _ ?_
      have hne : win0_5.index ⟨n, hn⟩ ≠ win0_5.index t₀ := fun h => by
        rw [idx5, idx5] at h
        have e0 : n / 64 = t₀.val / 64 := congrFun h 0
        have e1 : n % 16 = t₀.val % 16 := congrFun h 1
        omega
      have hd := win0_5.disjoint_blk hne
      intro hm
      exact Finset.disjoint_left.mp hd hm (Finset.mem_map_of_mem _ (Finset.mem_univ y))

/-- The last group's point of the batch and row block that hold row `r` of batch `b`. -/
def lastPt (b r : ℕ) : Fin cfg0.N := pn (b * 64 + 48 + r / 256)

end Cert.Proof.KI
-- ==== Proof.Math.lean ====
/-
  The mathematics of one attention head over the extended reals: the kernel divides by the sum of the powers after the
  projection through the head's rows of the output weights, and takes no row maximum out; the reference divides first, and
  does. For finite scores both are the same sum.
-/
module

public import Idealize.ShloMosaic.Lib.Pointwise
public import Idealize.ShloMosaic.Lib.IdealHost
public import Idealize.ShloMosaic.Lib.Pipeline.ValueKit

@[expose] public section

set_option maxRecDepth 16384

noncomputable section

namespace Cert.Proof.Head

open Idealize.ShloMosaic

/-! ## The constants -/

/-- The kernel's scale of q: the reciprocal of eight times the logarithm of two. -/
def qscale : EReal := (((8 * (Real.log 2))⁻¹ : ℝ) : EReal)

/-- The reference's scale of the scores, one over the root of the head's width, as it prints. -/
def scale : EReal := Ideal.div 1 (Ideal.sqrt (Ideal.ofBits FTy.f32 0x42800000#32))

/-- The reference's start of a row maximum, as it prints. -/
def low : EReal := Ideal.ofBits FTy.f32 0xFF800000#32

/-- The start of a row maximum is minus infinity. -/
theorem low_eq : low = ⊥ := by simp [low, Ideal.ofBits, Ideal.ieee]

/-- The pattern under the root is the number 64. -/
theorem width_eq : Ideal.ofBits FTy.f32 0x42800000#32 = ((64 : ℝ) : EReal) := by
  simp [Ideal.ofBits, Ideal.ieee, -EReal.coe_mul]; norm_num

/-- The scale of the scores is one eighth. -/
theorem scale_eq : scale = ((1 / 8 : ℝ) : EReal) := by
  have h8 : Real.sqrt 64 = 8 := by rw [show (64 : ℝ) = 8 ^ 2 by norm_num]; exact Real.sqrt_sq (by norm_num)
  rw [scale, width_eq, Ideal.sqrt_coe, if_neg (by norm_num), h8, Ideal.div_coe (by norm_num), one_mul]

/-! ## One head at one row -/

/-- The kernel's unnormalised weight of a row of q against a row of k. -/
def pow (x y : Fin 64 → EReal) : EReal := Ideal.exp2 (∑ d, x d * qscale * y d)

/-- What a head adds to one element of the kernel's result: the weighted values through the weights' column, over the sum of
    the row's powers. -/
def kernelHead (x : Fin 64 → EReal) (K V : Fin 4096 → Fin 64 → EReal) (w : Fin 64 → EReal) : EReal :=
  Ideal.div (∑ d, (∑ s, pow x (K s) * V s d) * w d) (∑ s, pow x (K s))

/-- The reference's score of a row of q against a row of k. -/
def score (x y : Fin 64 → EReal) : EReal := (∑ d, x d * y d) * scale

/-- The reference's exponential of a score, the row's maximum taken out. -/
def expo (x : Fin 64 → EReal) (K : Fin 4096 → Fin 64 → EReal) (s : Fin 4096) : EReal :=
  Ideal.exp (score x (K s) - max low (Finset.univ.fold max low fun j => score x (K j)))

/-- What a head adds to one element of the reference's result: the values under the softmax's weights, through the weights'
    column. -/
def refHead (x : Fin 64 → EReal) (K V : Fin 4096 → Fin 64 → EReal) (w : Fin 64 → EReal) : EReal :=
  ∑ d, (∑ s, Ideal.div (expo x K s) (∑ j, expo x K j) * V s d) * w d

/-! ## Sums of extended reals -/

/-- A finite sum of reals is the same sum among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative real factor comes out of a finite sum of any extended reals. -/
theorem sum_mul_real {ι : Type*} (s : Finset ι) (f : ι → EReal) {c : ℝ} (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- The maximum of finitely many reals, started at minus infinity, is a real when there is one at all. -/
theorem max_real {ι : Type*} (s : Finset ι) (f : ι → ℝ) (i : ι) (hi : i ∈ s) :
    ∃ M : ℝ, s.fold max (⊥ : EReal) (fun j => (f j : EReal)) = (M : EReal) := by
  have h1 : s.fold max (⊥ : EReal) (fun j => (f j : EReal)) ≠ ⊤ :=
    ne_of_lt ((Finset.fold_max_lt _).mpr ⟨bot_lt_top, fun j _ => EReal.coe_lt_top _⟩)
  have h2 : s.fold max (⊥ : EReal) (fun j => (f j : EReal)) ≠ ⊥ :=
    ne_of_gt ((Finset.lt_fold_max _).mpr (.inr ⟨i, hi, EReal.bot_lt_coe _⟩))
  exact ⟨_, (EReal.coe_toReal h1 h2).symm⟩

/-! ## The two heads agree -/

/-- The power of two of a scaled product is the exponential of the score. -/
theorem pow_coe (q k : Fin 64 → ℝ) :
    pow (fun d => (q d : EReal)) (fun d => (k d : EReal)) = ((Real.exp ((∑ d, q d * k d) * (1 / 8)) : ℝ) : EReal) := by
  have hl : Real.log 2 ≠ 0 := (Real.log_pos (by norm_num)).ne'
  simp only [pow, qscale, ← EReal.coe_mul, coe_sum, Ideal.exp2_coe]
  congr 1
  rw [Real.rpow_eq_pow, Real.rpow_def_of_pos (by norm_num)]
  congr 1
  rw [Finset.mul_sum, Finset.sum_mul]
  refine Finset.sum_congr rfl fun d _ => ?_
  field_simp

/-- The reference's score of real rows. -/
theorem score_coe (q k : Fin 64 → ℝ) :
    score (fun d => (q d : EReal)) (fun d => (k d : EReal)) = (((∑ d, q d * k d) * (1 / 8) : ℝ) : EReal) := by
  simp only [score, scale_eq, ← EReal.coe_mul, coe_sum]

/-- For real rows of q and k, and any values and weights, the kernel's head and the reference's add the same. -/
theorem head_coe (q : Fin 64 → ℝ) (k : Fin 4096 → Fin 64 → ℝ) (V : Fin 4096 → Fin 64 → EReal) (w : Fin 64 → EReal) :
    kernelHead (fun d => (q d : EReal)) (fun s d => (k s d : EReal)) V w
      = refHead (fun d => (q d : EReal)) (fun s d => (k s d : EReal)) V w := by
  obtain ⟨a, ha⟩ : ∃ a : Fin 4096 → ℝ, a = fun s => (∑ d, q d * k s d) * (1 / 8) := ⟨_, rfl⟩
  have hp : ∀ s, pow (fun d => (q d : EReal)) (fun d => (k s d : EReal)) = ((Real.exp (a s) : ℝ) : EReal) := fun s => by
    rw [pow_coe, ha]
  have hs : ∀ s, score (fun d => (q d : EReal)) (fun d => (k s d : EReal)) = ((a s : ℝ) : EReal) := fun s => by
    rw [score_coe, ha]
  obtain ⟨M, hM⟩ := max_real Finset.univ a 0 (Finset.mem_univ 0)
  have he : ∀ s, expo (fun d => (q d : EReal)) (fun s d => (k s d : EReal)) s = ((Real.exp (a s - M) : ℝ) : EReal) := fun s => by
    simp only [expo, hs, low_eq, hM, bot_le, sup_of_le_right, max_eq_right, ← EReal.coe_sub, Ideal.exp_coe]
  have hpos : 0 < ∑ s, Real.exp (a s) := Finset.sum_pos (fun s _ => Real.exp_pos _) ⟨0, Finset.mem_univ 0⟩
  have hpos' : 0 < ∑ s, Real.exp (a s - M) := Finset.sum_pos (fun s _ => Real.exp_pos _) ⟨0, Finset.mem_univ 0⟩
  have hw : ∀ s, Real.exp (a s - M) * (1 / ∑ j, Real.exp (a j - M)) = Real.exp (a s) * (1 / ∑ j, Real.exp (a j)) := fun s => by
    have hsum : ∑ j, Real.exp (a j - M) = (∑ j, Real.exp (a j)) * Real.exp (-M) := by
      rw [Finset.sum_mul]
      exact Finset.sum_congr rfl fun j _ => by rw [sub_eq_add_neg, Real.exp_add]
    rw [hsum, sub_eq_add_neg, Real.exp_add]
    have := (Real.exp_pos (-M)).ne'
    field_simp
  have hc : (0 : ℝ) ≤ 1 / ∑ j, Real.exp (a j) := (one_div_pos.mpr hpos).le
  simp only [kernelHead, refHead, hp, he, coe_sum, Ideal.div_coe hpos.ne', Ideal.div_coe hpos'.ne', ← EReal.coe_mul, hw]
  rw [← sum_mul_real _ _ hc]
  refine Finset.sum_congr rfl fun d _ => ?_
  rw [mul_right_comm, ← sum_mul_real _ _ hc]
  refine congrArg (· * w d) (Finset.sum_congr rfl fun s _ => ?_)
  rw [EReal.coe_mul, mul_right_comm]

/-- The same, for rows each of whose elements is a real. -/
theorem head_eq (x : Fin 64 → EReal) (K V : Fin 4096 → Fin 64 → EReal) (w : Fin 64 → EReal)
    (hx : ∀ d, ∃ r : ℝ, x d = (r : EReal)) (hK : ∀ s d, ∃ r : ℝ, K s d = (r : EReal)) :
    kernelHead x K V w = refHead x K V w := by
  choose q hq using hx
  choose k hk using hK
  obtain rfl : x = fun d => (q d : EReal) := funext hq
  obtain rfl : K = fun s d => (k s d : EReal) := funext fun s => funext (hk s)
  exact head_coe q k V w

/-! ## An element of the result -/

/-- The shape of the queries, the keys and the values. -/
abbrev Rows : Shape := ⟨3, ![4, 4096, 1024]⟩
/-- The shape of the output weights. -/
abbrev Weights : Shape := ⟨2, ![1024, 64]⟩
/-- The shape of the bias. -/
abbrev Bias : Shape := ⟨1, ![64]⟩

/-- Column `d` of head `h` among the 1024. -/
def col (h : Fin 16) (d : Fin 64) : Fin 1024 := ⟨h.val * 64 + d.val, by omega⟩

/-- What head `h` adds to the kernel's element of batch `b`, row `r` and column `e`. -/
def headAt (Q K V : Rows.Idx → EReal) (W : Weights.Idx → EReal) (b : Fin 4) (r : Fin 4096) (e : Fin 64) (h : Fin 16) : EReal :=
  kernelHead (fun d => Q (ix3 b r (col h d))) (fun s d => K (ix3 b s (col h d))) (fun s d => V (ix3 b s (col h d)))
    (fun d => W (ix2 (col h d) e))

/-- The kernel's element: the sixteen heads' parts and the bias. -/
def kernelOut (Q K V : Rows.Idx → EReal) (W : Weights.Idx → EReal) (B : Bias.Idx → EReal) (b : Fin 4) (r : Fin 4096)
    (e : Fin 64) : EReal :=
  (∑ h : Fin 16, headAt Q K V W b r e h) + B (ix1 e)

/-- The head a column belongs to. -/
def headOf (n : Fin 1024) : Fin 16 := ⟨n.val / 64, by omega⟩

/-- The reference's element: the 1024 columns of the heads' results through the weights, and the bias. -/
def refOut (Q K V : Rows.Idx → EReal) (W : Weights.Idx → EReal) (B : Bias.Idx → EReal) (b : Fin 4) (r : Fin 4096)
    (e : Fin 64) : EReal :=
  (∑ n : Fin 1024, (∑ s, Ideal.div
      (expo (fun d => Q (ix3 b r (col (headOf n) d))) (fun s d => K (ix3 b s (col (headOf n) d))) s)
      (∑ j, expo (fun d => Q (ix3 b r (col (headOf n) d))) (fun s d => K (ix3 b s (col (headOf n) d))) j)
        * V (ix3 b s n)) * W (ix2 n e)) + B (ix1 e)

/-- Where q and k are real everywhere, the kernel's element is the reference's. -/
theorem out_eq (Q K V : Rows.Idx → EReal) (W : Weights.Idx → EReal) (B : Bias.Idx → EReal)
    (hQ : ∀ i, ∃ x : ℝ, Q i = (x : EReal)) (hK : ∀ i, ∃ x : ℝ, K i = (x : EReal)) (b : Fin 4) (r : Fin 4096) (e : Fin 64) :
    kernelOut Q K V W B b r e = refOut Q K V W B b r e := by
  refine congrArg (· + B (ix1 e)) ?_
  refine Eq.trans (Finset.sum_congr rfl fun h _ => ?_) (Fin.sum_mul_add_congr (L := 1024) (S := 16) (n := 64)
    (F := fun h d => (∑ s, Ideal.div
      (expo (fun d => Q (ix3 b r (col h d))) (fun s d => K (ix3 b s (col h d))) s)
      (∑ j, expo (fun d => Q (ix3 b r (col h d))) (fun s d => K (ix3 b s (col h d))) j)
        * V (ix3 b s (col h d))) * W (ix2 (col h d) e)) ?_)
  · exact head_eq _ _ _ _ (fun d => hQ _) (fun s d => hK _)
  · intro h d hl
    have e1 : headOf ⟨h.val * 64 + d.val, hl⟩ = h := Fin.ext (show (h.val * 64 + d.val) / 64 = h.val by omega)
    have e2 : (⟨h.val * 64 + d.val, hl⟩ : Fin 1024) = col h d := rfl
    rw [e1, e2]

end Cert.Proof.Head
-- ==== Proof.Heads.lean ====
/-
  What a grid point adds to its rows of the accumulator, at an element, over the extended reals: the sum over the group's
  four heads of what each adds, its columns those of the q, k and v blocks and its rows those of the weights' block.
-/
module

public import proofs.«01_k».proof.Proof.Run
public import proofs.«01_k».proof.Proof.Math
public import Idealize.ShloMosaic.Lib.Pointwise

@[expose] public section

set_option maxRecDepth 16384
set_option maxHeartbeats 2000000

noncomputable section

namespace Cert.Proof.KI

open Cert.KernelIdeal Cert.KernelIdeal.Gen
open Idealize.ShloMosaic Idealize.ShloMosaic.TcCoe
open Cert.Proof.Head

/-! ## The prepared group at an element -/

/-- The prepared k is the k block. -/
theorem k_at (X1 : Vec Ideal S1x4096x256 .f32) (s : Fin 4096) (d : Fin 256) : k0_pay3 X1 (ix2 s d) = X1 (ix3 0 s d) := by
  pointwise [k0_pay3]

/-- A lane below 64 is so as a word. -/
theorem lane_lt (d : Fin 64) : IntOp.cmpi CmpIPredicate.slt (BitVec.ofNat 32 d.val) 64#32 = 1#1 := by revert d; decide
/-- A lane from 64 on is so as a word. -/
theorem lane_ge (d : Fin 64) : IntOp.cmpi CmpIPredicate.sge (BitVec.ofNat 32 (64 + d.val)) 64#32 = 1#1 := by revert d; decide

/-- A head of an even number: its values are the lower lanes, and the lane 64 holds ones. -/
theorem v0_at (X : Vec Ideal S1x4096x256 .f32) (s : Fin 4096) (d : Fin 64) :
    k0_pay7 X (ix2 s ⟨d.val, by omega⟩) = X (ix3 0 s ⟨d.val, by omega⟩) := by
  pointwise [k0_pay7, k0_pay5, k0_pay4]
  rw [lane_lt d]
  exact if_pos rfl
/-- Lane 64 of the first head's window holds ones. -/
theorem v0_one (X : Vec Ideal S1x4096x256 .f32) (s : Fin 4096) : k0_pay7 X (ix2 s (64 : Fin 128)) = (1 : EReal) := by
  pointwise [k0_pay7, k0_pay5, k0_pay4]
  rfl
/-- The third head's window holds its values in the lower lanes. -/
theorem v2_at (X : Vec Ideal S1x4096x256 .f32) (s : Fin 4096) (d : Fin 64) :
    k0_pay9 X (ix2 s ⟨d.val, by omega⟩) = X (ix3 0 s ⟨128 + d.val, by omega⟩) := by
  pointwise [k0_pay9, k0_pay6, k0_pay4]
  rw [lane_lt d]
  exact if_pos rfl
/-- Lane 64 of the third head's window holds ones. -/
theorem v2_one (X : Vec Ideal S1x4096x256 .f32) (s : Fin 4096) : k0_pay9 X (ix2 s (64 : Fin 128)) = (1 : EReal) := by
  pointwise [k0_pay9, k0_pay6, k0_pay4]
  rfl

/-- A head of an odd number: its values are the upper lanes, and the lane 0 holds ones. -/
theorem v1_at (X : Vec Ideal S1x4096x256 .f32) (s : Fin 4096) (d : Fin 64) :
    k0_pay8 X (ix2 s ⟨64 + d.val, by omega⟩) = X (ix3 0 s ⟨64 + d.val, by omega⟩) := by
  pointwise [k0_pay8, k0_pay5, k0_pay4]
  rw [lane_ge d]
  exact if_pos rfl
/-- Lane 0 of the second head's window holds ones. -/
theorem v1_one (X : Vec Ideal S1x4096x256 .f32) (s : Fin 4096) : k0_pay8 X (ix2 s (0 : Fin 128)) = (1 : EReal) := by
  pointwise [k0_pay8, k0_pay5, k0_pay4]
  rfl
/-- The fourth head's window holds its values in the upper lanes. -/
theorem v3_at (X : Vec Ideal S1x4096x256 .f32) (s : Fin 4096) (d : Fin 64) :
    k0_pay11 (k0_pay6 X) k0_pay10 (ix2 s ⟨64 + d.val, by omega⟩) = X (ix3 0 s ⟨192 + d.val, by omega⟩) := by
  pointwise [k0_pay11, k0_pay10, k0_pay6, k0_pay4]
  rw [lane_ge d]
  refine (if_pos rfl).trans ?_
  blk_ext
/-- Lane 0 of the fourth head's window holds ones. -/
theorem v3_one (X : Vec Ideal S1x4096x256 .f32) (s : Fin 4096) :
    k0_pay11 (k0_pay6 X) k0_pay10 (ix2 s (0 : Fin 128)) = (1 : EReal) := by
  pointwise [k0_pay11, k0_pay10, k0_pay6, k0_pay4]
  rfl

/-! ## The parts of the blocks a head reads -/

/-- A head's columns of the prepared k. -/
theorem kwin_at (K : Vec Ideal S4096x256 .bf16) (o : ℕ) (h : ∀ a, (![0, o] : Fin 2 → ℕ) a + S4096x64.size a ≤ S4096x256.size a)
    (ho : o + 64 ≤ 256) (s : Fin 4096) (d : Fin 64) :
    VecWindow.window K ![0, o] S4096x64.size h (ix2 s d) = K (ix2 s ⟨o + d.val, by omega⟩) := by
  unfold VecWindow.window
  blk_ext

/-- A head's rows of the weights' block. -/
theorem wwin_at (W : Vec Ideal S256x64 .f32) (o : ℕ) (h : ∀ a, (![o, 0] : Fin 2 → ℕ) a + S64x64.size a ≤ S256x64.size a)
    (ho : o + 64 ≤ 256) (d e : Fin 64) :
    VecWindow.window W ![o, 0] S64x64.size h (ix2 d e) = W (ix2 ⟨o + d.val, by omega⟩ e) := by
  unfold VecWindow.window
  blk_ext

/-! ## The point's sum -/

/-- What the head at columns `o, …, o + 63` of the blocks adds at an element. -/
def blkHead (X0 : Vec Ideal S1x256x256 .f32) (X1 X2 : Vec Ideal S1x4096x256 .f32) (X3 : Vec Ideal S256x64 .f32)
    (p : Fin 256) (e : Fin 64) (o : ℕ) (ho : o + 64 ≤ 256) : EReal :=
  kernelHead (fun d => X0 (ix3 0 p ⟨o + d.val, by omega⟩)) (fun s d => X1 (ix3 0 s ⟨o + d.val, by omega⟩))
    (fun s d => X2 (ix3 0 s ⟨o + d.val, by omega⟩)) (fun d => X3 (ix2 ⟨o + d.val, by omega⟩ e))

/-- A head as the body's operations spell it — the scale the kernel's named constant, the row's sum taken against a column of
    ones — is the head. -/
theorem printed_head (x : Fin 64 → EReal) (K V : Fin 4096 → Fin 64 → EReal) (w : Fin 64 → EReal)
    (kf vf : Fin 4096 → Fin 64 → EReal) (o : Fin 4096 → EReal) (wf : Fin 64 → EReal) (hk : ∀ s d, kf s d = K s d)
    (hv : ∀ s d, vf s d = V s d) (ho : ∀ s, o s = 1) (hw : ∀ d, wf d = w d) :
    Ideal.div (∑ d, (∑ s, Ideal.exp2 (∑ j, x j * Named.named (F := Ideal) κ "log2e_over_8" (φ := .f32) 0x3E38AA3B#32 * kf s j) * vf s d) * wf d)
        (∑ s, Ideal.exp2 (∑ j, x j * Named.named (F := Ideal) κ "log2e_over_8" (φ := .f32) 0x3E38AA3B#32 * kf s j) * o s)
      = kernelHead x K V w := by
  simp only [hk, hv, ho, hw, mul_one]
  rfl

/-- What a point adds, at an element: its four heads' parts. -/
theorem contrib_at (X0 : Vec Ideal S1x256x256 .f32) (X1 X2 : Vec Ideal S1x4096x256 .f32) (X3 : Vec Ideal S256x64 .f32)
    (p : Fin 256) (e : Fin 64) :
    contrib X0 (prep X1 X2) X3 (ix2 p e)
      = ((blkHead X0 X1 X2 X3 p e 0 (by norm_num) + blkHead X0 X1 X2 X3 p e 64 (by norm_num))
          + blkHead X0 X1 X2 X3 p e 128 (by norm_num)) + blkHead X0 X1 X2 X3 p e 192 (by norm_num) := by
  have hk := fun (o : ℕ) h (ho : o + 64 ≤ 256) (s : Fin 4096) (d : Fin 64) =>
    (kwin_at (k0_pay3 X1) o h ho s d).trans (k_at X1 s ⟨o + d.val, by omega⟩)
  unfold contrib prep
  pointwise [k0_pay17, k0_pay13, k0_pay14, k0_pay15, k0_pay16, k0_pay12]
  refine congrArg₂ (· + ·) (congrArg₂ (· + ·) (congrArg₂ (· + ·) ?_ ?_) ?_) ?_
  · refine (printed_head (fun d => X0 (ix3 0 p ⟨d.val, by omega⟩)) _ _ _ _ _ _ _ (hk 0 _ (by norm_num)) (v0_at X2) (v0_one X2)
      (fun d => wwin_at X3 0 _ (by norm_num) d e)).trans ?_
    simp only [blkHead, Nat.zero_add]
  · exact printed_head _ _ _ _ _ _ _ _ (hk 64 _ (by norm_num)) (v1_at X2) (v1_one X2)
      (fun d => wwin_at X3 64 _ (by norm_num) d e)
  · exact printed_head _ _ _ _ _ _ _ _ (hk 128 _ (by norm_num)) (v2_at X2) (v2_one X2)
      (fun d => wwin_at X3 128 _ (by norm_num) d e)
  · exact printed_head _ _ _ _ _ _ _ _ (hk 192 _ (by norm_num)) (v3_at X2) (v3_one X2)
      (fun d => wwin_at X3 192 _ (by norm_num) d e)

end Cert.Proof.KI
-- ==== Proof.Result.lean ====
/-
  The kernel's result array at an element, over the extended reals: the sixteen heads' parts and the bias.
-/
module

public import proofs.«01_k».proof.Proof.Out
public import proofs.«01_k».proof.Proof.Heads

@[expose] public section

set_option maxRecDepth 16384
set_option maxHeartbeats 2000000

noncomputable section

namespace Cert.Proof.KI

open Cert.KernelIdeal Cert.KernelIdeal.Gen
open Idealize.ShloMosaic Idealize.ShloMosaic.TcCoe Idealize.SL.Sem
open Cert.Proof.Head

variable (m : (ℓ : Loc nD τ sig) → Buf (Elt Ideal) ℓ)

/-! ## The blocks of the inputs, at an element -/

/-- Which block of each array a point reads: the queries', here, and below those of the keys, the values, the weights and the bias. -/
theorem idx0 : ∀ t : Fin grid0.N, win0_0.index t = ![t.val / 64, t.val % 16, t.val / 16 % 4] := by decide +kernel
/-- The block of the keys at a point: its batch and group. -/
theorem idx1 : ∀ t : Fin grid0.N, win0_1.index t = ![t.val / 64, 0, t.val / 16 % 4] := by decide +kernel
/-- The block of the values at a point: its batch and group. -/
theorem idx2 : ∀ t : Fin grid0.N, win0_2.index t = ![t.val / 64, 0, t.val / 16 % 4] := by decide +kernel
/-- The block of the weights at a point: its group. -/
theorem idx3 : ∀ t : Fin grid0.N, win0_3.index t = ![t.val / 16 % 4, 0] := by decide +kernel
/-- The bias has one block. -/
theorem idx4 : ∀ t : Fin grid0.N, win0_4.index t = ![0, 0] := by decide +kernel

/-- The queries: the first argument's array, as the following are the others'. -/
def aq (c : Dev nD) : Rows.Idx → EReal := m ((c.tc : Thread nD τ).loc main_arg0)
/-- The keys. -/
def ak (c : Dev nD) : Rows.Idx → EReal := m ((c.tc : Thread nD τ).loc main_arg1)
/-- The values. -/
def av (c : Dev nD) : Rows.Idx → EReal := m ((c.tc : Thread nD τ).loc main_arg2)
/-- The weights. -/
def aw (c : Dev nD) : Weights.Idx → EReal := m ((c.tc : Thread nD τ).loc main_arg3)
/-- The bias. -/
def ab (c : Dev nD) : Bias.Idx → EReal := m ((c.tc : Thread nD τ).loc main_arg4)

/-- The number of the point of batch `b`, group `g` and row block `i`. -/
theorem pn_at (b g : Fin 4) (i : Fin 16) : (pn (b.val * 64 + i.val + 16 * g.val)).val = b.val * 64 + i.val + 16 * g.val :=
  Nat.mod_eq_of_lt (by omega)

/-- A point's block of queries holds the rows of its row block and the columns of its group. -/
theorem bq_at (c : Dev nD) (t : Fin cfg0.N) (b g : Fin 4) (i : Fin 16) (ht : t.val = b.val * 64 + i.val + 16 * g.val)
    (p d : Fin 256) : bq m c t (ix3 0 p d) = aq m c (ix3 b ⟨i.val * 256 + p.val, by omega⟩ ⟨g.val * 256 + d.val, by omega⟩) := by
  unfold bq aq
  blk_ext [iblk, V_main_arg0, idx0 t, ht]

/-- A point's block of keys holds all rows of its batch and the columns of its group. -/
theorem bk_at (c : Dev nD) (t : Fin cfg0.N) (b g : Fin 4) (i : Fin 16) (ht : t.val = b.val * 64 + i.val + 16 * g.val)
    (s : Fin 4096) (d : Fin 256) : bk m c t (ix3 0 s d) = ak m c (ix3 b s ⟨g.val * 256 + d.val, by omega⟩) := by
  unfold bk ak
  blk_ext [iblk, V_main_arg1, idx1 t, ht]

/-- A point's block of values holds all rows of its batch and the columns of its group. -/
theorem bv_at (c : Dev nD) (t : Fin cfg0.N) (b g : Fin 4) (i : Fin 16) (ht : t.val = b.val * 64 + i.val + 16 * g.val)
    (s : Fin 4096) (d : Fin 256) : bv m c t (ix3 0 s d) = av m c (ix3 b s ⟨g.val * 256 + d.val, by omega⟩) := by
  unfold bv av
  blk_ext [iblk, V_main_arg2, idx2 t, ht]

/-- A point's block of weights holds the rows of its group. -/
theorem bw_at (c : Dev nD) (t : Fin cfg0.N) (b g : Fin 4) (i : Fin 16) (ht : t.val = b.val * 64 + i.val + 16 * g.val)
    (d : Fin 256) (e : Fin 64) : bw m c t (ix2 d e) = aw m c (ix2 ⟨g.val * 256 + d.val, by omega⟩ e) := by
  unfold bw aw
  blk_ext [iblk, V_main_arg3, idx3 t, ht]

/-- A point's block of the bias is the bias. -/
theorem bb_at (c : Dev nD) (t : Fin cfg0.N) (e : Fin 64) : bb m c t (ix2 0 e) = ab m c (ix1 e) := by
  unfold bb ab
  blk_ext! [iblk, idx4 t]

/-! ## The points' sums -/

/-- Head `j` of group `g` among the sixteen. -/
def hd (g j : Fin 4) : Fin 16 := ⟨g.val * 4 + j.val, by omega⟩

/-- A head of a point's blocks is the head of the arrays. -/
theorem blkHead_at (c : Dev nD) (t : Fin cfg0.N) (b g : Fin 4) (i : Fin 16) (ht : t.val = b.val * 64 + i.val + 16 * g.val)
    (p : Fin 256) (e : Fin 64) (j : Fin 4) (o : ℕ) (ho : o + 64 ≤ 256) (hj : o = 64 * j.val) :
    blkHead (bq m c t) (bk m c t) (bv m c t) (bw m c t) p e o ho
      = headAt (aq m c) (ak m c) (av m c) (aw m c) b ⟨i.val * 256 + p.val, by omega⟩ e (hd g j) := by
  have hcol : ∀ (d : Fin 64) (h : g.val * 256 + (o + d.val) < 1024), (⟨g.val * 256 + (o + d.val), h⟩ : Fin 1024) = col (hd g j) d := fun d h =>
    Fin.ext (show g.val * 256 + (o + d.val) = (g.val * 4 + j.val) * 64 + d.val by omega)
  unfold blkHead headAt
  simp only [bq_at m c t b g i ht, bk_at m c t b g i ht, bv_at m c t b g i ht, bw_at m c t b g i ht, hcol]

/-- What the point of batch `b`, group `g` and row block `i` adds at an element: the group's four heads' parts. -/
theorem addAt_at (c : Dev nD) (t : Fin cfg0.N) (b g : Fin 4) (i : Fin 16) (ht : t.val = b.val * 64 + i.val + 16 * g.val)
    (p : Fin 256) (e : Fin 64) :
    addAt m c t (ix2 p e)
      = (∑ j : Fin 4, headAt (aq m c) (ak m c) (av m c) (aw m c) b ⟨i.val * 256 + p.val, by omega⟩ e (hd g j) : EReal) := by
  unfold addAt prepAt
  rw [contrib_at, Fin.sum_univ_four, blkHead_at m c t b g i ht p e 0 0 _ rfl, blkHead_at m c t b g i ht p e 1 64 _ rfl,
    blkHead_at m c t b g i ht p e 2 128 _ rfl, blkHead_at m c t b g i ht p e 3 192 _ rfl]

/-- A sum of arrays, at an element. -/
theorem add_at (x y : FVec Ideal S256x64 .f32) (j : S256x64.Idx) : addf x y j = (x j : EReal) + y j := rfl

/-- The four groups' sum at an element: the sixteen heads' parts. -/
theorem sumTo_at (c : Dev nD) (b : Fin 4) (i : Fin 16) (p : Fin 256) (e : Fin 64) :
    sumTo m c (b.val * 64 + i.val) 3 (ix2 p e)
      = (∑ h : Fin 16, headAt (aq m c) (ak m c) (av m c) (aw m c) b ⟨i.val * 256 + p.val, by omega⟩ e h : EReal) := by
  have ha : ∀ g : Fin 4, addAt m c (pn (b.val * 64 + i.val + 16 * g.val)) (ix2 p e)
      = (∑ j : Fin 4, headAt (aq m c) (ak m c) (av m c) (aw m c) b ⟨i.val * 256 + p.val, by omega⟩ e (hd g j) : EReal) :=
    fun g => addAt_at m c _ b g i (pn_at b g i) p e
  rw [← Fin.sum_mul_add_congr (L := 16) (S := 4) (n := 4)
    (F := fun g j => headAt (aq m c) (ak m c) (av m c) (aw m c) b ⟨i.val * 256 + p.val, by omega⟩ e (hd g j)) (fun g j _ => rfl),
    Fin.sum_univ_four, ← ha 0, ← ha 1, ← ha 2, ← ha 3]
  simp only [sumTo, add_at]
  rfl

/-- What a last group's point leaves in the output's block, at an element. -/
theorem outAt_at (c : Dev nD) (b : Fin 4) (r : Fin 4096) (e : Fin 64) :
    outAt m c (lastPt b.val r.val) (ix3 0 (⟨r.val % 256, by omega⟩ : Fin 256) e)
      = kernelOut (aq m c) (ak m c) (av m c) (aw m c) (ab m c) b r e := by
  have hb : base (lastPt b.val r.val).val = b.val * 64 + r.val / 256 := by
    have hv : (lastPt b.val r.val).val = b.val * 64 + 48 + r.val / 256 := Nat.mod_eq_of_lt (by omega)
    rw [hv]; unfold base; omega
  have hs := sumTo_at m c b ⟨r.val / 256, by omega⟩ ⟨r.val % 256, by omega⟩ e
  have hr : (⟨r.val / 256 * 256 + r.val % 256, by omega⟩ : Fin 4096) = r := Fin.ext (by show r.val / 256 * 256 + r.val % 256 = r.val; omega)
  unfold outAt
  rw [hb]
  pointwise [k0_pay2]
  rw [hs, bb_at, kernelOut]
  simp only [hr]

/-! ## The result array -/

/-- The kernel's result array. -/
def result (c : Dev nD) : Buf (Elt Ideal) ((c.tc : Thread nD τ).loc main_v1) := fun z =>
  kernelOut (aq m c) (ak m c) (av m c) (aw m c) (ab m c) (z 0) (z 1) (z 2)

/-- Where an element of the result lies in its last group's block. -/
theorem emb_at (b : Fin 4) (r : Fin 4096) (e : Fin 64) :
    ((cfg0.win 5).blk (lastPt b.val r.val)).view.emb (ix3 0 (⟨r.val % 256, by omega⟩ : Fin 256) e : S1x256x64.Idx)
      = (ix3 b r e : S4x4096x64.Idx) := by
  have hv : (lastPt b.val r.val).val = b.val * 64 + 48 + r.val / 256 := Nat.mod_eq_of_lt (by omega)
  blk_ext [idx5 (lastPt b.val r.val), hv]

/-- An array the output window may end at is the result. -/
theorem arr_result (c : Dev nD) (n : ℕ) (hn : n = 256) (A : Buf (Elt Ideal) ((c.tc : Thread nD τ).loc main_v1))
    (h : (rdat m 0 c).ArrAt 5 n A) : A = result m c := by
  funext z
  obtain ⟨b, r, e, rfl⟩ : ∃ (b : Fin 4) (r : Fin 4096) (e : Fin 64), z = (ix3 b r e : S4x4096x64.Idx) := ⟨z 0, z 1, z 2, eq_ix3 z⟩
  have hv : (lastPt b.val r.val).val = b.val * 64 + 48 + r.val / 256 := Nat.mod_eq_of_lt (by omega)
  have hk := out_kept m c (lastPt b.val r.val) (by rw [hv]; omega) (ix3 0 (⟨r.val % 256, by omega⟩ : Fin 256) e) n A
    (by rw [hv]; omega) hn.le h
  rw [emb_at, outAt_at] at hk
  exact hk

/-- The kernel's run: its result array, and its arguments as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨arr_result m c _ N_0 _ ((h.1 c).1 5), args_kept h.1 c⟩) (run_main m ρ)

end Cert.Proof.KI
-- ==== Proof.Reference.lean ====
/-
  The reference's result array at an element, over the extended reals.
-/
module

public import proofs.«01_k».proof.Proof.Gen.ReferenceIdeal.Run
public import proofs.«01_k».proof.Proof.Math
public import Idealize.ShloMosaic.Lib.Pointwise

@[expose] public section

set_option maxRecDepth 16384
set_option maxHeartbeats 2000000

noncomputable section

namespace Cert.Proof.RI

open Cert.ReferenceIdeal Cert.ReferenceIdeal.Gen Cert.ReferenceIdeal.Value
open Idealize.ShloMosaic Idealize.ShloMosaic.TcCoe
open Cert.Proof.Head
open Facts

/-! ## The reference's stages -/

/-- The heads of q, k or v: columns cut into sixteen heads, the head's axis brought before the rows. -/
def heads (x : FVec Ideal S4x4096x1024 .f32) : FVec Ideal S4x16x4096x64 .f32 :=
  transpose S4x16x4096x64 [0, 2, 1, 3] (shapeCast _ x shapeCasts_S4x4096x1024_S4x4096x16x64) transposes_S4x4096x16x64_S4x16x4096x64_0_2_1_3

/-- The scaled scores. -/
def scores (q k : FVec Ideal S4x16x4096x64 .f32) : FVec Ideal S4x16x4096x4096 .f32 :=
  mulf (Host.dotGeneral dot_S4x16x4096x64_S4x16x4096x64_S4x16x4096x4096_3_3_2_2_01_01 none q k)
    (broadcastInDim S4x16x4096x4096 ![] bcast_S_S4x16x4096x4096 (Host.divf (constant S_ .f32 0x3F800000#32) (Host.sqrt (constant S_ .f32 0x42800000#32))))

/-- The row maxima. -/
def maxima (x : FVec Ideal S4x16x4096x4096 .f32) : FVec Ideal S4x16x4096 .f32 :=
  maximumf (broadcastInDim S4x16x4096 ![] bcast_S_S4x16x4096 (constant S_ .f32 0xFF800000#32))
    (Host.reduce FloatOps.maximumf x (constant S_ .f32 0xFF800000#32) reducesTo_S4x16x4096x4096_S4x16x4096_d3 h_S_)

/-- A number for each row, along the row. -/
def along (x : FVec Ideal S4x16x4096 .f32) : FVec Ideal S4x16x4096x4096 .f32 :=
  broadcastInDim S4x16x4096x4096 ![0, 1, 2, 3] bcast_S4x16x4096x1_S4x16x4096x4096_0_1_2_3 (broadcastInDim S4x16x4096x1 ![0, 1, 2] bcast_S4x16x4096_S4x16x4096x1_0_1_2 x)

/-- The exponentials of the scores, each row's maximum taken out. -/
def exps (x : FVec Ideal S4x16x4096x4096 .f32) : FVec Ideal S4x16x4096x4096 .f32 :=
  Host.exp (subf x (along (maxima x)))

/-- Each row over its sum. -/
def shares (x : FVec Ideal S4x16x4096x4096 .f32) : FVec Ideal S4x16x4096x4096 .f32 :=
  Host.divf x (along (Host.reduceAdd x (constant S_ .f32 0x00000000#32) reducesTo_S4x16x4096x4096_S4x16x4096_d3 h_S_))

/-- The heads' results side by side again. -/
def joined (x : FVec Ideal S4x16x4096x4096 .f32) (v : FVec Ideal S4x16x4096x64 .f32) : FVec Ideal S4x4096x1024 .f32 :=
  shapeCast _ (transpose S4x4096x16x64 [0, 2, 1, 3] (Host.dotGeneral dot_S4x16x4096x4096_S4x16x4096x64_S4x16x4096x64_3_2_2_3_01_01 none x v) transposes_S4x16x4096x64_S4x4096x16x64_0_2_1_3) shapeCasts_S4x4096x16x64_S4x4096x1024

/-- Through the output weights, and the bias added. -/
def projected (x : FVec Ideal S4x4096x1024 .f32) (w : FVec Ideal S1024x64 .f32) (y : FVec Ideal S64 .f32) : FVec Ideal S4x4096x64 .f32 :=
  addf (Host.dotGeneral dot_S4x4096x1024_S1024x64_S4x4096x64_2_0_01_1_n_n none x w) (broadcastInDim S4x4096x64 ![0, 1, 2] bcast_S1x1x64_S4x4096x64_0_1_2 (broadcastInDim S1x1x64 ![2] bcast_S64_S1x1x64_2 y))

/-! ## The stages at an element -/

/-- An element of an array split into heads is the element of the array in that head's column. -/
theorem heads_at (x : FVec Ideal S4x4096x1024 .f32) (b : Fin 4) (h : Fin 16) (s : Fin 4096) (d : Fin 64) :
    heads x (ix4 b h s d) = x (ix3 b s (col h d)) := by
  pointwise [heads]
  rfl

/-- A score is the product of a query's head with a key's head, times the scale. -/
theorem scores_at (q k : FVec Ideal S4x16x4096x64 .f32) (b : Fin 4) (h : Fin 16) (r s : Fin 4096) :
    scores q k (ix4 b h r s) = score (fun d => q (ix4 b h r d)) (fun d => k (ix4 b h s d)) := by
  unfold score scale
  pointwise [scores]

/-- A number per row, repeated along the row. -/
theorem along_at (x : FVec Ideal S4x16x4096 .f32) (b : Fin 4) (h : Fin 16) (r s : Fin 4096) :
    along x (ix4 b h r s) = x (ix3 b h r) := by
  pointwise [along]

/-- The projection at an element: a row times a column of the weights, plus the bias. -/
theorem projected_at (x : FVec Ideal S4x4096x1024 .f32) (w : FVec Ideal S1024x64 .f32) (y : FVec Ideal S64 .f32)
    (b : Fin 4) (r : Fin 4096) (e : Fin 64) :
    projected x w y (ix3 b r e) = (∑ n : Fin 1024, x (ix3 b r n) * w (ix2 n e)) + y (ix1 e) := by
  pointwise [projected]

/-- Column `n` of the joined heads: the shares of its head times the values of that head's column. -/
theorem joined_at (x : FVec Ideal S4x16x4096x4096 .f32) (v : FVec Ideal S4x16x4096x64 .f32) (b : Fin 4) (r : Fin 4096) (n : Fin 1024) :
    joined x v (ix3 b r n) = ∑ s : Fin 4096, x (ix4 b (headOf n) r s) * v (ix4 b (headOf n) s ⟨n.val % 64, by omega⟩) := by
  pointwise [joined]
  rfl

/-- The host's fold of any four-axis array over its last axis is the fold over a row's elements. -/
theorem fold_last {n0 n1 n2 n3 : ℕ} {u : Shape} (f : EReal → EReal → EReal) [Std.Commutative f] [Std.Associative f]
    (x : (⟨4, ![n0, n1, n2, n3]⟩ : Shape).Idx → EReal) (init : u.Idx → EReal)
    (h : (⟨4, ![n0, n1, n2, n3]⟩ : Shape).ReducesTo [3] ⟨3, ![n0, n1, n2]⟩) (hu : 0 < u.numel)
    (b : Fin n0) (g : Fin n1) (r : Fin n2) :
    Host.reduce f x init h hu (ix3 b g r) = Finset.univ.fold f (init (Shape.Idx.first hu)) fun s : Fin n3 => x (ix4 b g r s) :=
  (Host.reduce_eq_fold f x init h hu (ix3 b g r)).trans (h.fold_fiber_r4_a3 (ix3 b g r) f _ x)

/-- Two extended reals' maximum, as the operation names it. -/
theorem maximumf_eq : (FloatOps.maximumf (F := Ideal) (φ := .f32) : EReal → EReal → EReal) = max := rfl

/-- The larger of two arrays, at an element. -/
theorem max2_at (x y : FVec Ideal S4x16x4096 .f32) (j : S4x16x4096.Idx) : maximumf x y j = max (x j : EReal) (y j) := rfl

/-- The array of the lowest number, at an element. -/
theorem low_at (j : S4x16x4096.Idx) :
    broadcastInDim S4x16x4096 ![] bcast_S_S4x16x4096 (constant (F := Ideal) S_ .f32 0xFF800000#32) j = low := rfl

/-- A row's maximum as the host's fold takes it, from the lowest number on. -/
theorem rowmax_at (x : FVec Ideal S4x16x4096x4096 .f32) (b : Fin 4) (h : Fin 16) (r : Fin 4096) :
    Host.reduce FloatOps.maximumf x (constant (F := Ideal) S_ .f32 0xFF800000#32) reducesTo_S4x16x4096x4096_S4x16x4096_d3 h_S_ (ix3 b h r)
      = Finset.univ.fold max low fun s : Fin 4096 => x (ix4 b h r s) := by
  have e : (constant (F := Ideal) S_ .f32 0xFF800000#32 (Shape.Idx.first h_S_) : EReal) = low := rfl
  rw [maximumf_eq, fold_last, e]

/-- The maximum that is subtracted from a row. -/
theorem maxima_at (x : FVec Ideal S4x16x4096x4096 .f32) (b : Fin 4) (h : Fin 16) (r : Fin 4096) :
    maxima x (ix3 b h r) = max low (Finset.univ.fold max low fun s : Fin 4096 => x (ix4 b h r s)) := by
  rw [maxima, max2_at, low_at, rowmax_at]

/-- The exponential of an array, at an element. -/
theorem exp_at (x : FVec Ideal S4x16x4096x4096 .f32) (j : S4x16x4096x4096.Idx) : Host.exp x j = Ideal.exp (x j) := rfl

/-- A difference of arrays, at an element. -/
theorem sub_at (x y : FVec Ideal S4x16x4096x4096 .f32) (j : S4x16x4096x4096.Idx) : subf x y j = (x j : EReal) - y j := rfl

/-- A quotient of arrays, at an element. -/
theorem div_at (x y : FVec Ideal S4x16x4096x4096 .f32) (j : S4x16x4096x4096.Idx) : Host.divf x y j = Ideal.div (x j) (y j) := rfl

/-- The exponential of a score less its row's maximum. -/
theorem exps_at (x : FVec Ideal S4x16x4096x4096 .f32) (b : Fin 4) (h : Fin 16) (r s : Fin 4096) :
    exps x (ix4 b h r s) = Ideal.exp ((x (ix4 b h r s) : EReal) - max low (Finset.univ.fold max low fun j : Fin 4096 => x (ix4 b h r j))) := by
  rw [exps, exp_at, sub_at, along_at, maxima_at]

/-- A row's sum. -/
theorem sums_at (x : FVec Ideal S4x16x4096x4096 .f32) (b : Fin 4) (h : Fin 16) (r : Fin 4096) :
    Host.reduceAdd x (constant S_ .f32 0x00000000#32) reducesTo_S4x16x4096x4096_S4x16x4096_d3 h_S_ (ix3 b h r)
      = (∑ s : Fin 4096, x (ix4 b h r s) : EReal) := by
  pointwise

/-- An exponential divided by its row's sum. -/
theorem shares_at (x : FVec Ideal S4x16x4096x4096 .f32) (b : Fin 4) (h : Fin 16) (r s : Fin 4096) :
    shares x (ix4 b h r s) = Ideal.div (x (ix4 b h r s)) (∑ j : Fin 4096, x (ix4 b h r j) : EReal) := by
  rw [shares, div_at, along_at, sums_at]

/-- The exponentials of the scores of the heads of q and k. -/
theorem expo_at (q k : FVec Ideal S4x4096x1024 .f32) (b : Fin 4) (h : Fin 16) (r s : Fin 4096) :
    exps (scores (heads q) (heads k)) (ix4 b h r s)
      = expo (fun d => q (ix3 b r (col h d))) (fun s d => k (ix3 b s (col h d))) s := by
  rw [exps_at, expo]
  simp only [scores_at, heads_at]

/-- The softmax's weights of the heads of q and k. -/
theorem share_at (q k : FVec Ideal S4x4096x1024 .f32) (b : Fin 4) (h : Fin 16) (r s : Fin 4096) :
    shares (exps (scores (heads q) (heads k))) (ix4 b h r s)
      = Ideal.div (expo (fun d => q (ix3 b r (col h d))) (fun s d => k (ix3 b s (col h d))) s)
          (∑ j, expo (fun d => q (ix3 b r (col h d))) (fun s d => k (ix3 b s (col h d))) j) := by
  rw [shares_at]
  simp only [expo_at]

/-- A column is the column of its place in its head. -/
theorem col_headOf (n : Fin 1024) (h : n.val % 64 < 64) : col (headOf n) ⟨n.val % 64, h⟩ = n :=
  Fin.ext (show n.val / 64 * 64 + n.val % 64 = n.val by omega)

/-- The stages one after the other, at an element. -/
theorem stages_at (q k v : FVec Ideal S4x4096x1024 .f32) (w : FVec Ideal S1024x64 .f32) (y : FVec Ideal S64 .f32)
    (b : Fin 4) (r : Fin 4096) (e : Fin 64) :
    projected (joined (shares (exps (scores (heads q) (heads k)))) (heads v)) w y (ix3 b r e) = refOut q k v w y b r e := by
  rw [projected_at, refOut]
  simp only [joined_at, share_at, heads_at, col_headOf]

/-- The reference's result is the stages one after the other. -/
theorem res_eq (m : (ℓ : Loc nD τ sig) → Buf (Elt Ideal) ℓ) (c : Dev nD) :
    res_main_v28 m c
      = projected (joined (shares (exps (scores (heads (m ((c.tc : Thread nD τ).loc main_arg0)))
          (heads (m ((c.tc : Thread nD τ).loc main_arg1)))))) (heads (m ((c.tc : Thread nD τ).loc main_arg2))))
          (m ((c.tc : Thread nD τ).loc main_arg3)) (m ((c.tc : Thread nD τ).loc main_arg4)) := by
  unfold res_main_v28 projected joined shares exps maxima along scores heads
  rfl

/-- The reference's result at batch `b`, row `r` and column `e`. -/
theorem ref_at (m : (ℓ : Loc nD τ sig) → Buf (Elt Ideal) ℓ) (c : Dev nD) (b : Fin 4) (r : Fin 4096) (e : Fin 64) :
    res_main_v28 m c (ix3 b r e)
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) b r e :=
  (congrFun (res_eq m c) (ix3 b r e)).trans (stages_at _ _ _ _ _ b r e)

end Cert.Proof.RI
-- ==== Proof.Value.lean ====
/-
  The value claim: for finite queries and keys the idealized kernel and the reference end with the same array.
-/
module

public import proofs.«01_k».proof.Defs
public import proofs.«01_k».proof.Proof.Frames
public import proofs.«01_k».proof.Proof.Result
public import proofs.«01_k».proof.Proof.Reference

@[expose] public section

set_option maxRecDepth 16384

noncomputable section

namespace Cert.Proof

open Idealize.ShloMosaic Idealize.ShloMosaic.TcCoe Idealize.SL.Sem
open Cert.Proof.Head

/-- The pattern the precondition compares with is plus infinity. -/
theorem top_eq : Ideal.ofBits FTy.f32 0x7F800000#32 = ⊤ := by simp [Ideal.ofBits, Ideal.ieee]

/-- Two bits whose conjunction is set are both set. -/
theorem both_of_and : ∀ a b : BitVec 1, a &&& b = 1#1 → a = 1#1 ∧ b = 1#1 := by decide

/-- An extended real whose absolute value is below plus infinity is a real. -/
theorem real_of_abs_lt (x : EReal) (h : max x (-x) < ⊤) : ∃ r : ℝ, x = (r : EReal) := by
  induction x using EReal.rec with
  | bot => simp at h
  | coe r => exact ⟨r, rfl⟩
  | top => simp at h

/-- One element of the precondition: both numbers are real. -/
theorem real_of_pre (hF : Cert.Pre_finite_scores.Facts) (q k v : Rows.Idx → EReal) (w : Weights.Idx → EReal) (y : Bias.Idx → EReal)
    (h : Cert.Pre_finite_scores.fn (F := Ideal) q k v w y = fun _ => 1#1) (i : Rows.Idx) :
    (∃ r : ℝ, q i = (r : EReal)) ∧ ∃ r : ℝ, k i = (r : EReal) := by
  have hi := congrFun h i
  have hb : ∀ x : EReal, FloatOps.cmpf (F := Ideal) (φ := .f32) .olt (max x (-x)) (Ideal.ofBits FTy.f32 0x7F800000#32) = 1#1 → ∃ r : ℝ, x = (r : EReal) := by
    intro x hx
    rw [top_eq] at hx
    refine real_of_abs_lt x ?_
    by_contra hn
    have : FloatOps.cmpf (F := Ideal) (φ := .f32) .olt (max x (-x)) (⊤ : EReal) = 0#1 := by
      show Ideal.cmp .olt (max x (-x)) (⊤ : EReal) = 0#1
      simp only [Ideal.cmp, hn]
      rfl
    rw [this] at hx
    exact absurd hx (by decide)
  obtain ⟨h0, h1⟩ := both_of_and _ _ hi
  exact ⟨hb _ h0, hb _ h1⟩

/-- The value claim. -/
theorem algebraic : Cert.algebraic_KernelIdeal_ReferenceIdeal_pre_finite_scores (hPre_finite_scores := preFacts) := by
  intro m g m' g' hpre hagree
  refine ⟨fun c => KI.result m c, KI.run_value m g, ?_⟩
  refine (θ_run Cert.ReferenceIdeal.defs _ _).mono (fun r h c => ⟨(h c).1.trans ?_, (h c).2⟩)
    (Cert.ReferenceIdeal.Value.run (F := Ideal) m' g')
  obtain ⟨e0, e1, e2, e3, e4⟩ := hagree c
  have hr := real_of_pre preFacts _ _ _ _ _ (hpre c)
  funext z
  obtain ⟨b, r, e, rfl⟩ : ∃ (b : Fin 4) (r : Fin 4096) (e : Fin 64), z = (ix3 b r e : Cert.ReferenceIdeal.S4x4096x64.Idx) := ⟨z 0, z 1, z 2, eq_ix3 z⟩
  refine (RI.ref_at m' c b r e).trans ?_
  rw [e0, e1, e2, e3, e4]
  exact (out_eq _ _ _ _ _ (fun i => (hr i).1) (fun i => (hr i).2) b r e).symm

end Cert.Proof

end
-- ==== Proof.lean ====
/-
  All claims about the attention kernel, put together: the three frames (Frames), the ideal program is the kernel over the
  extended reals (Frames), and kernel and reference compute the same array where queries and keys are finite (Value).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim holds: no program faults or changes its arguments, and kernel and reference agree over the extended reals. -/
theorem claim : Cert.Claim :=
  ⟨Cert.Kernel.Gen.facts, Cert.KernelIdeal.Gen.facts, Cert.ReferenceIdeal.Gen.facts, preFacts,
    frame_p, frame_pi, fun m ρ _ => frame_pi m ρ trivial, frame_ri, fun m ρ _ => frame_ri m ρ trivial, preserves, algebraic⟩

end Cert.Proof

end
